-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S19x16x512 : Shape := ⟨3, ![19, 16, 512]⟩
abbrev S256x512 : Shape := ⟨2, ![256, 512]⟩
abbrev S19 : Shape := ⟨1, ![19]⟩
abbrev S13 : Shape := ⟨1, ![13]⟩
abbrev S_ : Shape := ⟨0, ![]⟩
abbrev S1 : Shape := ⟨1, ![1]⟩
abbrev S1x16x512 : Shape := ⟨3, ![1, 16, 512]⟩
abbrev S16x512 : Shape := ⟨2, ![16, 512]⟩
abbrev S16 : Shape := ⟨1, ![16]⟩
abbrev S16x1 : Shape := ⟨2, ![16, 1]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S512, .f32⟩
  | .hbm, ⟨3, _⟩ => ⟨S512x512, .f32⟩
  | .local _ .vmem, ⟨0, _⟩ => ⟨S1x512x512, .f32⟩
  | .local _ .vmem, ⟨1, _⟩ => ⟨S512x512, .f32⟩
  | .local _ .vmem, ⟨2, _⟩ => ⟨S512, .f32⟩
  | .local _ .vmem, ⟨3, _⟩ => ⟨S512x512, .f32⟩
  | .local _ .vmem, ⟨4, _⟩ => ⟨S19x16x512, .f32⟩
  | .local _ .vmem, ⟨5, _⟩ => ⟨S256x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v21 : BitVec 32 := Scalar.muli v2 c2_i32_11
  let v22 : BitVec 32 := Scalar.addi c0_i32_12 v21
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_13 : BitVec 32 := 1#32
  let v23 : BitVec 32 := Scalar.muli v6 c1_i32_13
  let v24 : BitVec 32 := Scalar.addi v22 v23
  v24.toNat
def k0_dev2 (d0 : Dev nD) : Nat :=
  let c0_i32_16 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_15 : BitVec 32 := 2#32
  let v25 : BitVec 32 := Scalar.muli v7 c2_i32_15
  let v26 : BitVec 32 := Scalar.addi c0_i32_16 v25
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v27 : BitVec 32 := Scalar.muli v5 c1_i32_17
  let v28 : BitVec 32 := Scalar.addi v26 v27
  v28.toNat
def k0_off1 (d0 : Dev nD) (c0_i32_19 : BitVec 32) : Fin 2 → Nat :=
  let c1_i32_9 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.addi v2 v5
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v19 : BitVec 32 := Scalar.subi c1_i32_9 v18
  let c256_i32 : BitVec 32 := 256#32
  let v29 : BitVec 32 := Scalar.muli v19 c256_i32
  let v30 : BitVec 32 := Scalar.addi v29 c0_i32_19
  let c0_i32_31 : BitVec 32 := 0#32
  ![v30.toNat, 0]
def k0_dev3 (d0 : Dev nD) : Nat :=
  let c0_i32_25 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_24 : BitVec 32 := 2#32
  let v31 : BitVec 32 := Scalar.muli v2 c2_i32_24
  let v32 : BitVec 32 := Scalar.addi c0_i32_25 v31
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_26 : BitVec 32 := 1#32
  let v33 : BitVec 32 := Scalar.muli v6 c1_i32_26
  let v34 : BitVec 32 := Scalar.addi v32 v33
  v34.toNat
def k0_dev4 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v46 : BitVec 32 := Scalar.muli v2 c2_i32_37
  let v47 : BitVec 32 := Scalar.addi c0_i32_38 v46
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_39 : BitVec 32 := 1#32
  let v48 : BitVec 32 := Scalar.muli v6 c1_i32_39
  let v49 : BitVec 32 := Scalar.addi v47 v48
  v49.toNat
def k0_dev5 (d0 : Dev nD) : Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_50 : BitVec 32 := 2#32
  let v61 : BitVec 32 := Scalar.muli v2 c2_i32_50
  let v62 : BitVec 32 := Scalar.addi c0_i32_51 v61
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_52 : BitVec 32 := 1#32
  let v63 : BitVec 32 := Scalar.muli v6 c1_i32_52
  let v64 : BitVec 32 := Scalar.addi v62 v63
  v64.toNat
def k0_dev6 (d0 : Dev nD) : Nat :=
  let c0_i32_63 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_62 : BitVec 32 := 2#32
  let v76 : BitVec 32 := Scalar.muli v2 c2_i32_62
  let v77 : BitVec 32 := Scalar.addi c0_i32_63 v76
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_64 : BitVec 32 := 1#32
  let v78 : BitVec 32 := Scalar.muli v6 c1_i32_64
  let v79 : BitVec 32 := Scalar.addi v77 v78
  v79.toNat
def k0_dev7 (d0 : Dev nD) : Nat :=
  let c0_i32_75 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_74 : BitVec 32 := 2#32
  let v91 : BitVec 32 := Scalar.muli v2 c2_i32_74
  let v92 : BitVec 32 := Scalar.addi c0_i32_75 v91
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_76 : BitVec 32 := 1#32
  let v93 : BitVec 32 := Scalar.muli v6 c1_i32_76
  let v94 : BitVec 32 := Scalar.addi v92 v93
  v94.toNat
def k0_dev8 (d0 : Dev nD) : Nat :=
  let c0_i32_87 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_86 : BitVec 32 := 2#32
  let v106 : BitVec 32 := Scalar.muli v2 c2_i32_86
  let v107 : BitVec 32 := Scalar.addi c0_i32_87 v106
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_88 : BitVec 32 := 1#32
  let v108 : BitVec 32 := Scalar.muli v6 c1_i32_88
  let v109 : BitVec 32 := Scalar.addi v107 v108
  v109.toNat
def k0_dev9 (d0 : Dev nD) : Nat :=
  let c0_i32_99 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_98 : BitVec 32 := 2#32
  let v121 : BitVec 32 := Scalar.muli v2 c2_i32_98
  let v122 : BitVec 32 := Scalar.addi c0_i32_99 v121
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_100 : BitVec 32 := 1#32
  let v123 : BitVec 32 := Scalar.muli v6 c1_i32_100
  let v124 : BitVec 32 := Scalar.addi v122 v123
  v124.toNat
def k0_dev10 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v136 : BitVec 32 := Scalar.muli v2 c2_i32_110
  let v137 : BitVec 32 := Scalar.addi c0_i32_111 v136
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_112 : BitVec 32 := 1#32
  let v138 : BitVec 32 := Scalar.muli v6 c1_i32_112
  let v139 : BitVec 32 := Scalar.addi v137 v138
  v139.toNat
def k0_dev11 (d0 : Dev nD) : Nat :=
  let c0_i32_123 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_122 : BitVec 32 := 2#32
  let v151 : BitVec 32 := Scalar.muli v2 c2_i32_122
  let v152 : BitVec 32 := Scalar.addi c0_i32_123 v151
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_124 : BitVec 32 := 1#32
  let v153 : BitVec 32 := Scalar.muli v6 c1_i32_124
  let v154 : BitVec 32 := Scalar.addi v152 v153
  v154.toNat
def k0_dev12 (d0 : Dev nD) : Nat :=
  let c0_i32_135 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_134 : BitVec 32 := 2#32
  let v166 : BitVec 32 := Scalar.muli v2 c2_i32_134
  let v167 : BitVec 32 := Scalar.addi c0_i32_135 v166
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_136 : BitVec 32 := 1#32
  let v168 : BitVec 32 := Scalar.muli v6 c1_i32_136
  let v169 : BitVec 32 := Scalar.addi v167 v168
  v169.toNat
def k0_dev13 (d0 : Dev nD) : Nat :=
  let c0_i32_147 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_146 : BitVec 32 := 2#32
  let v181 : BitVec 32 := Scalar.muli v2 c2_i32_146
  let v182 : BitVec 32 := Scalar.addi c0_i32_147 v181
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_148 : BitVec 32 := 1#32
  let v183 : BitVec 32 := Scalar.muli v6 c1_i32_148
  let v184 : BitVec 32 := Scalar.addi v182 v183
  v184.toNat
def k0_dev14 (d0 : Dev nD) : Nat :=
  let c0_i32_159 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_158 : BitVec 32 := 2#32
  let v196 : BitVec 32 := Scalar.muli v2 c2_i32_158
  let v197 : BitVec 32 := Scalar.addi c0_i32_159 v196
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_160 : BitVec 32 := 1#32
  let v198 : BitVec 32 := Scalar.muli v6 c1_i32_160
  let v199 : BitVec 32 := Scalar.addi v197 v198
  v199.toNat
def k0_dev15 (d0 : Dev nD) : Nat :=
  let c0_i32_171 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_170 : BitVec 32 := 2#32
  let v211 : BitVec 32 := Scalar.muli v2 c2_i32_170
  let v212 : BitVec 32 := Scalar.addi c0_i32_171 v211
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_172 : BitVec 32 := 1#32
  let v213 : BitVec 32 := Scalar.muli v6 c1_i32_172
  let v214 : BitVec 32 := Scalar.addi v212 v213
  v214.toNat
def k0_dev16 (d0 : Dev nD) : Nat :=
  let c0_i32_183 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_182 : BitVec 32 := 2#32
  let v226 : BitVec 32 := Scalar.muli v2 c2_i32_182
  let v227 : BitVec 32 := Scalar.addi c0_i32_183 v226
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_184 : BitVec 32 := 1#32
  let v228 : BitVec 32 := Scalar.muli v6 c1_i32_184
  let v229 : BitVec 32 := Scalar.addi v227 v228
  v229.toNat
def k0_dev17 (d0 : Dev nD) : Nat :=
  let c0_i32_195 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_194 : BitVec 32 := 2#32
  let v241 : BitVec 32 := Scalar.muli v2 c2_i32_194
  let v242 : BitVec 32 := Scalar.addi c0_i32_195 v241
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_196 : BitVec 32 := 1#32
  let v243 : BitVec 32 := Scalar.muli v6 c1_i32_196
  let v244 : BitVec 32 := Scalar.addi v242 v243
  v244.toNat
def k0_dev18 (d0 : Dev nD) : Nat :=
  let c0_i32_207 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_206 : BitVec 32 := 2#32
  let v256 : BitVec 32 := Scalar.muli v2 c2_i32_206
  let v257 : BitVec 32 := Scalar.addi c0_i32_207 v256
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_208 : BitVec 32 := 1#32
  let v258 : BitVec 32 := Scalar.muli v6 c1_i32_208
  let v259 : BitVec 32 := Scalar.addi v257 v258
  v259.toNat
def k0_off2 (d0 : Dev nD) (c0_i32_216 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.addi v2 v5
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c256_i32_214 : BitVec 32 := 256#32
  let v269 : BitVec 32 := Scalar.muli v18 c256_i32_214
  let c208_i32_215 : BitVec 32 := 208#32
  let v270 : BitVec 32 := Scalar.addi v269 c208_i32_215
  let v271 : BitVec 32 := Scalar.addi v270 c0_i32_216
  let c0_i32_228 : BitVec 32 := 0#32
  ![v271.toNat, 0]
def k0_dev19 (d0 : Dev nD) : Nat :=
  let c0_i32_222 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_221 : BitVec 32 := 2#32
  let v272 : BitVec 32 := Scalar.muli v2 c2_i32_221
  let v273 : BitVec 32 := Scalar.addi c0_i32_222 v272
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_223 : BitVec 32 := 1#32
  let v274 : BitVec 32 := Scalar.muli v6 c1_i32_223
  let v275 : BitVec 32 := Scalar.addi v273 v274
  v275.toNat
def k0_dev20 (d0 : Dev nD) : Nat :=
  let c0_i32_236 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_235 : BitVec 32 := 2#32
  let v288 : BitVec 32 := Scalar.muli v2 c2_i32_235
  let v289 : BitVec 32 := Scalar.addi c0_i32_236 v288
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_237 : BitVec 32 := 1#32
  let v290 : BitVec 32 := Scalar.muli v6 c1_i32_237
  let v291 : BitVec 32 := Scalar.addi v289 v290
  v291.toNat
def k0_dev21 (d0 : Dev nD) : Nat :=
  let c0_i32_250 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_249 : BitVec 32 := 2#32
  let v304 : BitVec 32 := Scalar.muli v2 c2_i32_249
  let v305 : BitVec 32 := Scalar.addi c0_i32_250 v304
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_251 : BitVec 32 := 1#32
  let v306 : BitVec 32 := Scalar.muli v6 c1_i32_251
  let v307 : BitVec 32 := Scalar.addi v305 v306
  v307.toNat
def k0_off3 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.addi v2 v5
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c256_i32_257 : BitVec 32 := 256#32
  let v317 : BitVec 32 := Scalar.muli v18 c256_i32_257
  let v320 : Index := Scalar.indexCast v317
  let c0 : Index := 0#32
  ![v320.toNat, 0]
def k0_off4 (d0 : Dev nD) (c0_i32_284 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.addi v2 v5
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c256_i32_283 : BitVec 32 := 256#32
  let v352 : BitVec 32 := Scalar.muli v18 c256_i32_283
  let v353 : BitVec 32 := Scalar.addi v352 c0_i32_284
  let v362 : Index := Scalar.indexCast v353
  let c0_286 : Index := 0#32
  ![v362.toNat, 0]
def k0_off5 (d0 : Dev nD) (c0_i32_284 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.addi v2 v5
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c256_i32_283 : BitVec 32 := 256#32
  let v352 : BitVec 32 := Scalar.muli v18 c256_i32_283
  let v353 : BitVec 32 := Scalar.addi v352 c0_i32_284
  let c0_i32_292 : BitVec 32 := 0#32
  ![v353.toNat, 0]
def k0_dev22 (d0 : Dev nD) : Nat :=
  let c0_i32_290 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_289 : BitVec 32 := 2#32
  let v364 : BitVec 32 := Scalar.muli v7 c2_i32_289
  let v365 : BitVec 32 := Scalar.addi c0_i32_290 v364
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_291 : BitVec 32 := 1#32
  let v366 : BitVec 32 := Scalar.muli v5 c1_i32_291
  let v367 : BitVec 32 := Scalar.addi v365 v366
  v367.toNat
def k0_dev23 (d0 : Dev nD) : Nat :=
  let c0_i32_318 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_317 : BitVec 32 := 2#32
  let v406 : BitVec 32 := Scalar.muli v7 c2_i32_317
  let v407 : BitVec 32 := Scalar.addi c0_i32_318 v406
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_319 : BitVec 32 := 1#32
  let v408 : BitVec 32 := Scalar.muli v5 c1_i32_319
  let v409 : BitVec 32 := Scalar.addi v407 v408
  v409.toNat
def k0_dev24 (d0 : Dev nD) : Nat :=
  let c0_i32_346 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_345 : BitVec 32 := 2#32
  let v448 : BitVec 32 := Scalar.muli v7 c2_i32_345
  let v449 : BitVec 32 := Scalar.addi c0_i32_346 v448
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_347 : BitVec 32 := 1#32
  let v450 : BitVec 32 := Scalar.muli v5 c1_i32_347
  let v451 : BitVec 32 := Scalar.addi v449 v450
  v451.toNat
def k0_dev25 (d0 : Dev nD) : Nat :=
  let c0_i32_374 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_373 : BitVec 32 := 2#32
  let v490 : BitVec 32 := Scalar.muli v7 c2_i32_373
  let v491 : BitVec 32 := Scalar.addi c0_i32_374 v490
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_375 : BitVec 32 := 1#32
  let v492 : BitVec 32 := Scalar.muli v5 c1_i32_375
  let v493 : BitVec 32 := Scalar.addi v491 v492
  v493.toNat
def k0_dev26 (d0 : Dev nD) : Nat :=
  let c0_i32_402 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_401 : BitVec 32 := 2#32
  let v532 : BitVec 32 := Scalar.muli v7 c2_i32_401
  let v533 : BitVec 32 := Scalar.addi c0_i32_402 v532
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_403 : BitVec 32 := 1#32
  let v534 : BitVec 32 := Scalar.muli v5 c1_i32_403
  let v535 : BitVec 32 := Scalar.addi v533 v534
  v535.toNat
def k0_dev27 (d0 : Dev nD) : Nat :=
  let c0_i32_430 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_429 : BitVec 32 := 2#32
  let v574 : BitVec 32 := Scalar.muli v7 c2_i32_429
  let v575 : BitVec 32 := Scalar.addi c0_i32_430 v574
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_431 : BitVec 32 := 1#32
  let v576 : BitVec 32 := Scalar.muli v5 c1_i32_431
  let v577 : BitVec 32 := Scalar.addi v575 v576
  v577.toNat
def k0_dev28 (d0 : Dev nD) : Nat :=
  let c0_i32_458 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_457 : BitVec 32 := 2#32
  let v616 : BitVec 32 := Scalar.muli v7 c2_i32_457
  let v617 : BitVec 32 := Scalar.addi c0_i32_458 v616
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_459 : BitVec 32 := 1#32
  let v618 : BitVec 32 := Scalar.muli v5 c1_i32_459
  let v619 : BitVec 32 := Scalar.addi v617 v618
  v619.toNat
def k0_dev29 (d0 : Dev nD) : Nat :=
  let c0_i32_486 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_485 : BitVec 32 := 2#32
  let v658 : BitVec 32 := Scalar.muli v7 c2_i32_485
  let v659 : BitVec 32 := Scalar.addi c0_i32_486 v658
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_487 : BitVec 32 := 1#32
  let v660 : BitVec 32 := Scalar.muli v5 c1_i32_487
  let v661 : BitVec 32 := Scalar.addi v659 v660
  v661.toNat
def k0_dev30 (d0 : Dev nD) : Nat :=
  let c0_i32_514 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_513 : BitVec 32 := 2#32
  let v700 : BitVec 32 := Scalar.muli v7 c2_i32_513
  let v701 : BitVec 32 := Scalar.addi c0_i32_514 v700
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_515 : BitVec 32 := 1#32
  let v702 : BitVec 32 := Scalar.muli v5 c1_i32_515
  let v703 : BitVec 32 := Scalar.addi v701 v702
  v703.toNat
def k0_dev31 (d0 : Dev nD) : Nat :=
  let c0_i32_542 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_541 : BitVec 32 := 2#32
  let v742 : BitVec 32 := Scalar.muli v7 c2_i32_541
  let v743 : BitVec 32 := Scalar.addi c0_i32_542 v742
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_543 : BitVec 32 := 1#32
  let v744 : BitVec 32 := Scalar.muli v5 c1_i32_543
  let v745 : BitVec 32 := Scalar.addi v743 v744
  v745.toNat
def k0_dev32 (d0 : Dev nD) : Nat :=
  let c0_i32_570 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_569 : BitVec 32 := 2#32
  let v784 : BitVec 32 := Scalar.muli v7 c2_i32_569
  let v785 : BitVec 32 := Scalar.addi c0_i32_570 v784
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_571 : BitVec 32 := 1#32
  let v786 : BitVec 32 := Scalar.muli v5 c1_i32_571
  let v787 : BitVec 32 := Scalar.addi v785 v786
  v787.toNat
def k0_dev33 (d0 : Dev nD) : Nat :=
  let c0_i32_598 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_597 : BitVec 32 := 2#32
  let v826 : BitVec 32 := Scalar.muli v7 c2_i32_597
  let v827 : BitVec 32 := Scalar.addi c0_i32_598 v826
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_599 : BitVec 32 := 1#32
  let v828 : BitVec 32 := Scalar.muli v5 c1_i32_599
  let v829 : BitVec 32 := Scalar.addi v827 v828
  v829.toNat
def k0_dev34 (d0 : Dev nD) : Nat :=
  let c0_i32_626 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_625 : BitVec 32 := 2#32
  let v868 : BitVec 32 := Scalar.muli v7 c2_i32_625
  let v869 : BitVec 32 := Scalar.addi c0_i32_626 v868
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_627 : BitVec 32 := 1#32
  let v870 : BitVec 32 := Scalar.muli v5 c1_i32_627
  let v871 : BitVec 32 := Scalar.addi v869 v870
  v871.toNat
def k0_off6 (d0 : Dev nD) (c0_i32_707 : BitVec 32) : Fin 2 → Nat :=
  let c1_i32_9 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.addi v2 v5
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v19 : BitVec 32 := Scalar.subi c1_i32_9 v18
  let c256_i32_705 : BitVec 32 := 256#32
  let v985 : BitVec 32 := Scalar.muli v19 c256_i32_705
  let c208_i32_706 : BitVec 32 := 208#32
  let v986 : BitVec 32 := Scalar.addi v985 c208_i32_706
  let v987 : BitVec 32 := Scalar.addi v986 c0_i32_707
  let v990 : Index := Scalar.indexCast v987
  let c0_711 : Index := 0#32
  ![v990.toNat, 0]
abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x512 : Shape := ⟨3, ![2, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x512, .f32⟩
  | .hbm, ⟨18, _⟩ => ⟨S512x512, .f32⟩
  | .hbm, ⟨19, _⟩ => ⟨S1x512, .f32⟩
  | .hbm, ⟨20, _⟩ => ⟨S512x512, .f32⟩
  | .hbm, ⟨21, _⟩ => ⟨S512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.KernelIdealCommon.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore at zero. -/
def mst : MemSt nD τ sig (Elt F) := ⟨m, fun _ => 0, ρ⟩

/-! ## The mesh -/

set_option backward.proofsInPublic true in
/-- The neighbour along `y`. -/
def yn (c : Dev nD) : Dev nD := ⟨(2 * (c.val / 2) + 1) - c.val % 2, by have := c.isLt; simp only [nD] at *; omega⟩
set_option backward.proofsInPublic true in
/-- The neighbour along `x`. -/
def xn (c : Dev nD) : Dev nD := ⟨(c.val % 2 + 2) - 2 * (c.val / 2), by have := c.isLt; simp only [nD] at *; omega⟩

theorem yn_yn (c : Dev nD) : yn (yn c) = c := by revert c; decide
theorem xn_xn (c : Dev nD) : xn (xn c) = c := by revert c; decide
theorem yn_ne_xn (c : Dev nD) : yn c ≠ xn c := by revert c; decide

def yE : Dev nD ≃ Dev nD := ⟨yn, yn, yn_yn, yn_yn⟩
def xE : Dev nD ≃ Dev nD := ⟨xn, xn, xn_xn, xn_xn⟩

/-- The half (0 upper, 1 lower) of the rows a device works on. -/
def own (c : Dev nD) : ℕ := (c.val / 2 + c.val % 2) % 2

/-- First row of device `c`'s chunk `k`. -/
def rowOf (c : Dev nD) (k : ℕ) : ℕ :=
  if k < 16 then own c * 256 + 16 * k else (1 - own c) * 256 + 208 + 16 * (k - 16)

theorem own_lt (c : Dev nD) : own c < 2 := Nat.mod_lt _ (by decide)

theorem rowOf_le (c : Dev nD) (k : ℕ) (hk : k < 19) : rowOf c k + 16 ≤ 512 := by
  have := own_lt c
  unfold rowOf; split <;> omega

/-- Offset of chunk `k` of device `c` in a 512x512 buffer. -/
abbrev rOff (c : Dev nD) (k : ℕ) : Fin 2 → ℕ := ![rowOf c k, 0]
/-- Offset of slot `k` of the receive buffer. -/
abbrev cOff (k : ℕ) : Fin 3 → ℕ := ![k, 0, 0]

theorem rOff_inb (c : Dev nD) (k : ℕ) (hk : k < 19) : ∀ a, rOff c k a + S16x512.size a ≤ S512x512.size a := by
  intro a
  have := rowOf_le c k hk
  fin_cases a
  · exact this
  · exact Nat.le_refl 512

theorem cOff_inb (k : ℕ) (hk : k < 19) : ∀ a, cOff k a + S1x16x512.size a ≤ S19x16x512.size a := by
  intro a
  fin_cases a
  · exact hk
  · exact Nat.le_refl 16
  · exact Nat.le_refl 512

/-! ### The kernel's offset chains -/

theorem off1_eq : ∀ c : Dev nD, ∀ r : Fin 16, k0_off1 c (BitVec.ofNat 32 (16 * r.val)) = rOff (yn c) r.val := by decide +kernel
theorem off2_eq : ∀ c : Dev nD, ∀ r : Fin 3, k0_off2 c (BitVec.ofNat 32 (16 * r.val)) = rOff (yn c) (r.val + 16) := by decide +kernel
theorem off4_eq : ∀ c : Dev nD, ∀ r : Fin 16, k0_off4 c (BitVec.ofNat 32 (16 * r.val)) = rOff c r.val := by decide +kernel
theorem off5_eq : ∀ c : Dev nD, ∀ r : Fin 13, k0_off5 c (BitVec.ofNat 32 (16 * r.val)) = rOff c r.val := by decide +kernel
theorem off6_eq : ∀ c : Dev nD, ∀ r : Fin 3, k0_off6 c (BitVec.ofNat 32 (16 * r.val)) = rOff c (r.val + 16) := by decide +kernel
theorem off3_eq : ∀ c : Dev nD, k0_off3 c = ![own c * 256, 0] := by decide +kernel

/-! ## Memrefs and semaphores -/

abbrev pM : Memref sig .tc .vmem S1x512x512 .f32 := Memref.whole cc0_stg0_0
abbrev rM : Memref sig .tc .vmem S512x512 .f32 := Memref.whole cc0_stg1_0
abbrev gM : Memref sig .tc .vmem S512 .f32 := Memref.whole cc0_stg2_0
abbrev oM : Memref sig .tc .vmem S512x512 .f32 := Memref.whole cc0_stg3_0
abbrev cM : Memref sig .tc .vmem S19x16x512 .f32 := Memref.whole cc0_scratch0
abbrev preM : Memref sig .tc .vmem S256x512 .f32 := Memref.whole cc0_scratch1

/-- The block of `partial`, its leading axis of size one dropped. -/
abbrev sqM : Memref sig .tc .vmem S512x512 .f32 :=
  (pM.slice (Rect.unit (s := S1x512x512) ![0, 0, 0] S1x512x512.size Facts₀.inb_S1x512x512_S1x512x512_0_0_0) (fun _ => rfl)).squeeze S512x512 Facts₀.squeezes_S1x512x512_S512x512
/-- 16 rows of it. -/
abbrev pRow (c : Dev nD) (k : Fin 19) : Memref sig .tc .vmem S16x512 .f32 :=
  sqM.slice (Rect.unit (s := S512x512) (rOff c k) S16x512.size (rOff_inb c k k.isLt)) (fun _ => rfl)
/-- Slot `k` of the receive buffer. -/
abbrev cSlot (k : Fin 19) : Memref sig .tc .vmem S16x512 .f32 :=
  (cM.slice (Rect.unit (s := S19x16x512) (cOff k) S1x16x512.size (cOff_inb k k.isLt)) (fun _ => rfl)).squeeze S16x512 Facts₀.squeezes_S1x16x512_S16x512
/-- 16 rows of the result. -/
abbrev oRow (c : Dev nD) (k : Fin 19) : Memref sig .tc .vmem S16x512 .f32 :=
  oM.slice (Rect.unit (s := S512x512) (rOff c k) S16x512.size (rOff_inb c k k.isLt)) (fun _ => rfl)

abbrev barS : Sem sig := (SemArray.scalar (sig.barrier 0 rfl) : Sems sig S_).sem
abbrev ySendS (k : Fin 19) : DmaSem sig := ⟨4 + k.val, by have := k.isLt; show 4 + k.val < 68; omega⟩
abbrev yRecvS (k : Fin 19) : DmaSem sig := ⟨23 + k.val, by have := k.isLt; show 23 + k.val < 68; omega⟩
abbrev xSendS (k : Fin 13) : DmaSem sig := ⟨42 + k.val, by have := k.isLt; show 42 + k.val < 68; omega⟩
abbrev xRecvS (k : Fin 13) : DmaSem sig := ⟨55 + k.val, by have := k.isLt; show 55 + k.val < 68; omega⟩

abbrev barCell (c : Dev nD) : GSem nD τ sig := ((c : Thread nD τ), .reg barS)
abbrev ySendCell (c : Dev nD) (k : Fin 19) : GSem nD τ sig := ((c : Thread nD τ), .dma (ySendS k))
abbrev yRecvCell (c : Dev nD) (k : Fin 19) : GSem nD τ sig := ((c : Thread nD τ), .dma (yRecvS k))
abbrev xSendCell (c : Dev nD) (k : Fin 13) : GSem nD τ sig := ((c : Thread nD τ), .dma (xSendS k))
abbrev xRecvCell (c : Dev nD) (k : Fin 13) : GSem nD τ sig := ((c : Thread nD τ), .dma (xRecvS k))

/-- The kernel's own semaphores of one core, by kind and index. -/
abbrev KI : Type := (Fin 19 ⊕ Fin 19) ⊕ (Fin 13 ⊕ Fin 13)
/-- These and the barrier. -/
abbrev CI : Type := Unit ⊕ KI

def osem : KI → SemLoc sig
  | .inl (.inl k) => .dma (ySendS k)
  | .inl (.inr k) => .dma (yRecvS k)
  | .inr (.inl k) => .dma (xSendS k)
  | .inr (.inr k) => .dma (xRecvS k)

def csem : CI → SemLoc sig
  | .inl _ => .reg barS
  | .inr k => osem k

abbrev cell (c : Dev nD) (i : CI) : GSem nD τ sig := ((c : Thread nD τ), csem i)

/-- Which kind a semaphore is, read off its number. -/
def kind : SemLoc sig → Option CI
  | .reg s => if s = barS then some (.inl ()) else none
  | .dma s => if h : s.val < 4 then none
      else if h1 : s.val < 23 then some (.inr (.inl (.inl ⟨s.val - 4, by omega⟩)))
      else if h2 : s.val < 42 then some (.inr (.inl (.inr ⟨s.val - 23, by omega⟩)))
      else if h3 : s.val < 55 then some (.inr (.inr (.inl ⟨s.val - 42, by omega⟩)))
      else if h4 : s.val < 68 then some (.inr (.inr (.inr ⟨s.val - 55, by omega⟩))) else none

theorem kind_csem : ∀ i : CI, kind (csem i) = some i := by decide +kernel

theorem csem_inj : Function.Injective csem := fun i j h => by
  have := congrArg kind h
  rw [kind_csem, kind_csem] at this
  exact Option.some.inj this

/-- What one transfer of 16 rows credits. -/
abbrev N : ℕ := (cSlot 0).view.dmaCredit
theorem N_pos : 0 < N := View.dmaCredit_pos _ (by decide)

/-! ## Contents -/

abbrev pLoc (c : Dev nD) : Loc nD τ sig := (c : Thread nD τ).loc cc0_stg0_0
abbrev rLoc (c : Dev nD) : Loc nD τ sig := (c : Thread nD τ).loc cc0_stg1_0
abbrev gLoc (c : Dev nD) : Loc nD τ sig := (c : Thread nD τ).loc cc0_stg2_0
abbrev oLoc (c : Dev nD) : Loc nD τ sig := (c : Thread nD τ).loc cc0_stg3_0
abbrev cLoc (c : Dev nD) : Loc nD τ sig := (c : Thread nD τ).loc cc0_scratch0
abbrev preLoc (c : Dev nD) : Loc nD τ sig := (c : Thread nD τ).loc cc0_scratch1

/-- The staged operands of device `c`. -/
def P (c : Dev nD) : Buf (Elt F) (pLoc c) :=
  (win0_0.blk (0 : Fin 1)).view.read (Elt F) (m ((c : Thread nD τ).loc main_arg0))
def R (c : Dev nD) : Buf (Elt F) (rLoc c) :=
  (win0_1.blk (0 : Fin 1)).view.read (Elt F) (m ((c : Thread nD τ).loc main_arg1))
def G (c : Dev nD) : Buf (Elt F) (gLoc c) :=
  (win0_2.blk (0 : Fin 1)).view.read (Elt F) (m ((c : Thread nD τ).loc main_arg2))

/-- Rows `off ..` of the staged `partial`, as sent. -/
def pSent (c : Dev nD) (k : Fin 19) : S16x512.Idx → Elt F .f32 :=
  (pRow (yn c) k).view.read (Elt F) (P m c)

/-- What a write of those rows into slot `k` makes of the receive buffer. -/
def commOf (c : Dev nD) (k : Fin 19) (f : Buf (Elt F) (cLoc c)) : Buf (Elt F) (cLoc c) :=
  (cSlot k).view.write (Elt F) f (pSent m (yn c) k) Finset.univ

abbrev ownRect (c : Dev nD) : LoadRect S512x512 :=
  (Rect.unit (s := S512x512) (k0_off3 c) S256x512.size (Facts₀.k0_off3_inb c)).toLoadRect
abbrev rowRect (c : Dev nD) (k : Fin 19) : LoadRect S512x512 :=
  (Rect.unit (s := S512x512) (rOff c k) S16x512.size (rOff_inb c k k.isLt)).toLoadRect

/-- The device's own half of `partial + resid`. -/
def preAt (c : Dev nD) : Buf (Elt F) (preLoc c) :=
  k0_pay1 (sqM.view.readAt (Elt F) (ownRect c) (P m c)) (rM.view.readAt (Elt F) (ownRect c) (R m c))

def gv (c : Dev nD) : FVec F S512 .f32 :=
  k0_pay2 (gM.view.readAt (Elt F) (Rect.unit (s := S512) ![0] S512.size (by decide)).toLoadRect (G m c))

end Cert.KernelIdeal.Own
end
-- ==== Proof.KernelIdealSched.lean ====
module

public import proofs.«01_k».proof.Proof.KernelIdealCommon

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The sets of the chunks -/

theorem mem_cSlot (k : Fin 19) (i : S19x16x512.Idx) : i ∈ (cSlot k).view.set ↔ i 0 = k := by
  have hs : (cSlot k).view.set = (Rect.unit (s := S19x16x512) (cOff k) S1x16x512.size (cOff_inb k k.isLt)).set :=
    (View.set_reshape _ _).trans (View.set_slice_whole cc0_scratch0 _)
  refine (Finset.ext_iff.mp hs i).trans (Rect.mem_set_unit.trans ?_)
  constructor
  · intro h
    have h0 : k.val ≤ (i 0).val ∧ (i 0).val < k.val + 1 := h 0
    exact Fin.ext (by omega)
  · rintro rfl a
    fin_cases a
    · exact ⟨Nat.le_refl _, Nat.lt_succ_self _⟩
    · exact ⟨Nat.zero_le _, (Nat.zero_add 16).symm ▸ (i 1).isLt⟩
    · exact ⟨Nat.zero_le _, (Nat.zero_add 512).symm ▸ (i 2).isLt⟩

theorem mem_oRow (c : Dev nD) (k : Fin 19) (i : S512x512.Idx) :
    i ∈ (oRow c k).view.set ↔ rowOf c k ≤ (i 0).val ∧ (i 0).val < rowOf c k + 16 := by
  have hs : (oRow c k).view.set = (Rect.unit (s := S512x512) (rOff c k) S16x512.size (rOff_inb c k k.isLt)).set :=
    View.set_slice_whole cc0_stg3_0 _
  refine (Finset.ext_iff.mp hs i).trans (Rect.mem_set_unit.trans ?_)
  constructor
  · intro h; exact h 0
  · rintro h a
    fin_cases a
    · exact h
    · exact ⟨Nat.zero_le _, (Nat.zero_add 512).symm ▸ (i 1).isLt⟩

/-- The chunk's number among the 32 of the result: a device's own 19, and the 13 its `x` neighbour sends. -/
def cidx (c : Dev nD) : Fin 19 ⊕ Fin 13 → Fin 32
  | .inl k => ⟨rowOf c k / 16, by have := rowOf_le c k k.isLt; omega⟩
  | .inr k => ⟨rowOf (xn c) k / 16, by have := rowOf_le (xn c) k (by omega); omega⟩

theorem cidx_bij : ∀ c : Dev nD, Function.Bijective (cidx c) := by decide +kernel

def cidxE (c : Dev nD) : Fin 19 ⊕ Fin 13 ≃ Fin 32 := Equiv.ofBijective (cidx c) (cidx_bij c)

theorem rowOf_dvd (c : Dev nD) (k : ℕ) : rowOf c k / 16 * 16 = rowOf c k := by
  unfold rowOf; split <;> omega

/-- Chunk `q` of the result on device `c`: which device computes it, and which of its chunks it is. -/
def src (c : Dev nD) (q : Fin 32) : Dev nD × Fin 19 :=
  match (cidxE c).symm q with
  | .inl k => (c, k)
  | .inr k => (xn c, ⟨k.val, by omega⟩)

theorem src_own (c : Dev nD) (k : Fin 19) (q : Fin 32) (h : q.val = rowOf c k / 16) : src c q = (c, k) := by
  have : (cidxE c).symm q = .inl k := by
    rw [Equiv.symm_apply_eq]; exact Fin.ext h
  unfold src; rw [this]

theorem src_nbr (c : Dev nD) (k : Fin 13) (q : Fin 32) (h : q.val = rowOf (xn c) k / 16) :
    src c q = (xn c, ⟨k.val, by omega⟩) := by
  have : (cidxE c).symm q = .inr k := by
    rw [Equiv.symm_apply_eq]; exact Fin.ext h
  unfold src; rw [this]

/-! ## Contents, continued -/

def commAt (c : Dev nD) : Buf (Elt F) (cLoc c) :=
  fun (i : S19x16x512.Idx) => commOf m c (i 0) (m (cLoc c)) i

/-- On slot `k` the receive buffer's contents are what a write of the neighbour's rows makes, whatever was there. -/
theorem commAt_eq (c : Dev nD) (k : Fin 19) (f : Buf (Elt F) (cLoc c)) (i : S19x16x512.Idx) (h : i ∈ (cSlot k).view.set) :
    commOf m c k f i = commAt m c i := by
  have hk := (mem_cSlot k i).mp h
  show _ = commOf m c (i 0) (m (cLoc c)) i
  rw [hk]
  unfold commOf
  obtain ⟨j, -, hj⟩ := Finset.mem_map.mp h
  rw [← hj]
  exact (View.write_emb_of_mem (v := (cSlot k).view) _ _ (Finset.mem_univ j)).trans (View.write_emb_of_mem (v := (cSlot k).view) _ _ (Finset.mem_univ j)).symm

abbrev slotRect (k : Fin 19) : LoadRect S19x16x512 :=
  (Rect.unit (s := S19x16x512) (cOff k) S1x16x512.size (cOff_inb k k.isLt)).toLoadRect

theorem preOff_inb (k : ℕ) (hk : k < 16) : ∀ a, (![16 * k, 0] : Fin 2 → ℕ) a + S16x512.size a ≤ S256x512.size a := by
  intro a
  fin_cases a
  · show 16 * k + 16 ≤ 256; omega
  · exact Nat.le_refl 512

abbrev preRect (k : ℕ) (hk : k < 16) : LoadRect S256x512 :=
  (Rect.unit (s := S256x512) ![16 * k, 0] S16x512.size (preOff_inb k hk)).toLoadRect

/-- The received rows of chunk `k`. -/
def yb (c : Dev nD) (k : Fin 19) : Vec F S1x16x512 .f32 := cM.view.readAt (Elt F) (slotRect k) (commAt m c)
/-- The device's own rows of chunk `k` for `k < 16`, from the buffer that holds its half. -/
def yaLo (c : Dev nD) (k : ℕ) (hk : k < 16) : Vec F S16x512 .f32 := preM.view.readAt (Elt F) (preRect k hk) (preAt m c)
def pv (c : Dev nD) (k : Fin 19) : Vec F S16x512 .f32 := sqM.view.readAt (Elt F) (rowRect c k) (P m c)
def rv (c : Dev nD) (k : Fin 19) : Vec F S16x512 .f32 := rM.view.readAt (Elt F) (rowRect c k) (R m c)
def ya (c : Dev nD) (k : Fin 19) : Vec F S16x512 .f32 :=
  if h : k.val < 16 then yaLo m c k h else k0_pay35 (pv m c k) (rv m c k)

theorem ya_lo (c : Dev nD) (k : Fin 19) (h : k.val < 16) : ya m c k = yaLo m c k h := dif_pos h
theorem ya_hi (c : Dev nD) (k : Fin 19) (h : ¬ k.val < 16) : ya m c k = k0_pay35 (pv m c k) (rv m c k) := dif_neg h

/-- Chunk `k` of the result, as device `c` computes it. -/
def chunkOut (c : Dev nD) (k : Fin 19) : FVec F S16x512 .f32 :=
  k0_pay8 (gv m c) (k0_pay7 (ya m c k) (yb m c k))

/-- The place in its chunk of an element of the result. -/
def inChunk (i : S512x512.Idx) : S16x512.Idx :=
  fun a => match a with
    | ⟨0, _⟩ => ⟨(i 0).val % 16, Nat.mod_lt _ (by decide)⟩
    | ⟨1, _⟩ => ⟨(i 1).val, (i 1).isLt⟩

def chunkNo (i : S512x512.Idx) : Fin 32 := ⟨(i 0).val / 16, by have h : (i 0).val < 512 := (i 0).isLt; omega⟩

/-- The result on device `c`. -/
def outAt (c : Dev nD) : Buf (Elt F) (oLoc c) :=
  fun (i : S512x512.Idx) => chunkOut m (src c (chunkNo i)).1 (src c (chunkNo i)).2 (inChunk i)

theorem outAt_own (c : Dev nD) (k : Fin 19) (i : S512x512.Idx) (h : i ∈ (oRow c k).view.set) :
    outAt m c i = chunkOut m c k (inChunk i) := by
  have h' := (mem_oRow c k i).mp h
  have := rowOf_dvd c k
  unfold outAt
  rw [src_own c k (chunkNo i) (by show (i 0).val / 16 = _; omega)]

theorem outAt_nbr (c : Dev nD) (k : Fin 19) (hk : k.val < 13) (i : S512x512.Idx) (h : i ∈ (oRow (xn c) k).view.set) :
    outAt m c i = chunkOut m (xn c) k (inChunk i) := by
  have h' := (mem_oRow (xn c) k i).mp h
  have := rowOf_dvd (xn c) k
  unfold outAt
  rw [src_nbr c ⟨k.val, hk⟩ (chunkNo i) (by show (i 0).val / 16 = _; simp only; omega)]

theorem outAt_xn (c : Dev nD) (k : Fin 19) (hk : k.val < 13) (i : S512x512.Idx) (h : i ∈ (oRow c k).view.set) :
    outAt m (xn c) i = outAt m c i := by
  rw [outAt_own m c k i h, outAt_nbr m (xn c) k hk i (by rw [xn_xn]; exact h), xn_xn]

theorem inChunk_emb (c : Dev nD) (k : Fin 19) (j : S16x512.Idx) : inChunk ((oRow c k).view.emb j) = j := by
  have hd := rowOf_dvd c k
  funext a
  fin_cases a
  · refine Fin.ext ?_
    show (rowOf c k + 1 * (j 0).val) % 16 = (j 0).val
    have : (j 0).val < 16 := (j 0).isLt
    omega
  · refine Fin.ext ?_
    show 0 + 1 * (j 1).val = (j 1).val
    omega

/-- A store of chunk `k` over any contents leaves the result's own. -/
theorem store_outAt (c : Dev nD) (k : Fin 19) (f : Buf (Elt F) (oLoc c)) (i : S512x512.Idx) (h : i ∈ (oRow c k).view.set) :
    (oRow c k).view.write (Elt F) f (chunkOut m c k) Finset.univ i = outAt m c i := by
  rw [outAt_own m c k i h]
  obtain ⟨j, -, hj⟩ := Finset.mem_map.mp h
  rw [← hj, inChunk_emb]
  exact View.write_emb_of_mem (v := (oRow c k).view) _ _ (Finset.mem_univ j)

/-- A copy of chunk `k` into the `x` neighbour's result leaves that one's own. -/
theorem copy_outAt (c : Dev nD) (k : Fin 19) (hk : k.val < 13) (f : Buf (Elt F) (oLoc (xn c))) (i : S512x512.Idx)
    (h : i ∈ (oRow c k).view.set) :
    (oRow c k).view.write (Elt F) f ((oRow c k).view.read (Elt F) (outAt m c)) Finset.univ i = outAt m (xn c) i := by
  rw [outAt_xn m c k hk i h]
  obtain ⟨j, -, hj⟩ := Finset.mem_map.mp h
  rw [← hj]
  exact View.write_emb_of_mem (v := (oRow c k).view) _ _ (Finset.mem_univ j)

/-! ## The schedule -/

/-- The share of the staged `partial` that transfer `k` reads under. -/
abbrev pTok (k : Fin 19) : PosShare TreeShare := Transfers.shareTok fullShare 19 k

/-- Own rows and slots, by device and chunk. -/
def commPts (c : Dev nD) (k : Fin 19) (f : Buf (Elt F) (cLoc c)) : sProp 𝕄 := cLoc c ↦[(cSlot k).view.set]{fullShare} f
def oPts (c d : Dev nD) (k : Fin 19) (f : Buf (Elt F) (oLoc c)) : sProp 𝕄 := oLoc c ↦[(oRow d k).view.set]{fullShare} f
def pPts (c : Dev nD) (k : Fin 19) : sProp 𝕄 := pLoc c ↦[(pRow (yn c) k).view.set]{pTok k} P m c

abbrev up13 (k : Fin 13) : Fin 19 := ⟨k.val, by omega⟩

/-- What the `y` neighbour's signal hands over: the slots of its receive buffer. -/
def yGive (c : Dev nD) : sProp 𝕄 := bigSep Finset.univ fun k : Fin 19 => iprop(∃ f, commPts (F := F) (yn c) k f)
/-- What the `x` neighbour's signal hands over: the rows of its result this device computes. -/
def xGive (c : Dev nD) : sProp 𝕄 := bigSep Finset.univ fun k : Fin 13 => iprop(∃ f, oPts (F := F) (xn c) c (up13 k) f)

def pay (c : Dev nD) (i : CI) (d : Bool) : sProp 𝕄 :=
  match i with
  | .inl _ => if d then xGive c else yGive c
  | .inr (.inl (.inl k)) => pPts m c k
  | .inr (.inl (.inr k)) => commPts c k (commAt m c)
  | .inr (.inr (.inl k)) => oPts c c (up13 k) (outAt m c)
  | .inr (.inr (.inr k)) => oPts c (xn c) (up13 k) (outAt m c)

def dut (i : CI) : Finset Bool := match i with | .inl _ => Finset.univ | .inr _ => {false}
def amt (i : CI) : ℕ := match i with | .inl _ => 1 | .inr _ => N

instance pay_storable (c : Dev nD) (i : CI) (d : Bool) : BI.Storable (upEmb : UEmb _ 𝕄) (pay m c i d) := by
  unfold pay xGive yGive pPts commPts oPts
  rcases i with _ | (_ | _) | (_ | _)
  · show BI.Storable upEmb (if d then _ else _)
    split <;> infer_instance
  all_goals dsimp only; infer_instance

/-- One round: each barrier cell has two duties of one unit, each transfer cell one of the rows' credit. -/
def Rd : Rounds.Schedule (GSem nD τ sig) Bool 𝕄 where
  duties g r := if r = 0 ∧ g.1.2 = .tc then (match kind g.2 with | some i => dut i | none => ∅) else ∅
  unitless _ := False
  amount g _ _ := match kind g.2 with | some i => amt i | none => 1
  payload g _ d := match kind g.2 with | some i => pay m g.1.1 i d | none => iprop(emp)
  amount_pos g _ _ _ := by
    split
    · rename_i i _; rcases i with _ | _
      · exact Nat.one_pos
      · exact N_pos
    · exact Nat.one_pos

instance Rd_storable (g : GSem nD τ sig) (r : ℕ) (d : Bool) : BI.Storable (upEmb : UEmb _ 𝕄) ((Rd (F := F) m).payload g r d) := by
  show BI.Storable upEmb (match kind g.2 with | some i => pay m g.1.1 i d | none => iprop(emp))
  split <;> infer_instance

section Sched
variable (c : Dev nD) (i : CI)

theorem duties_cell : (Rd (F := F) m).duties (cell c i) 0 = dut i := by
  dsimp only [Rd]; rw [if_pos ⟨rfl, rfl⟩, kind_csem]
theorem duties_later (g : GSem nD τ sig) : ∀ r, 1 ≤ r → (Rd (F := F) m).duties g r = ∅ :=
  fun r hr => by dsimp only [Rd]; rw [if_neg fun h => by omega]
theorem amount_cell (d : Bool) : (Rd (F := F) m).amount (cell c i) 0 d = amt i := by dsimp only [Rd]; rw [kind_csem]
theorem payload_cell (d : Bool) : (Rd (F := F) m).payload (cell c i) 0 d = pay m c i d := by dsimp only [Rd]; rw [kind_csem]

theorem expect_bar : (Rd (F := F) m).expect (barCell c) 0 = 2 := by
  unfold Schedule.expect Schedule.amountOf
  show Finset.sum ((Rd m).duties (cell c (.inl ())) 0) (fun d => (Rd m).amount (cell c (.inl ())) 0 d) = 2
  rw [duties_cell, Finset.sum_congr rfl fun d _ => amount_cell m c (.inl ()) d]
  rfl
theorem expect_own (k : KI) : (Rd (F := F) m).expect (cell c (.inr k)) 0 = N := by
  unfold Schedule.expect Schedule.amountOf
  rw [duties_cell]
  show Finset.sum {false} _ = _
  rw [Finset.sum_singleton, amount_cell]; rfl

theorem rest_bar : bigSep ((Rd (F := F) m).duties (barCell c) 0 \ ∅) (fun d => (Rd (F := F) m).payload (barCell c) 0 d) = iprop(yGive c ∗ xGive c) := by
  show bigSep ((Rd m).duties (cell c (.inl ())) 0 \ ∅) (fun d => (Rd m).payload (cell c (.inl ())) 0 d) = _
  rw [Finset.sdiff_empty, duties_cell]
  show bigSep Finset.univ _ = _
  rw [bigSep_univ_eq_bigSepL [false, true] (by decide) (by decide), bigSepL_cons_cons, bigSepL_singleton, payload_cell, payload_cell]
  rfl
theorem rest_own (k : KI) : bigSep ((Rd (F := F) m).duties (cell c (.inr k)) 0 \ ∅) (fun d => (Rd (F := F) m).payload (cell c (.inr k)) 0 d) = pay m c (.inr k) false := by
  rw [Finset.sdiff_empty, duties_cell]
  show bigSep {false} _ = _
  rw [bigSep_singleton, payload_cell]

end Sched

/-! ## What each core owes; the levels -/

/-- The credits of the `y` transfers from the `n`-th on. -/
def OY (c : Dev nD) (n : ℕ) : CellTallies nD τ sig Unit := ∑ k : Fin 19, if n ≤ k.val then tallyAt (yRecvCell (yn c) k) () N else 0
def OX (c : Dev nD) (n : ℕ) : CellTallies nD τ sig Unit := ∑ k : Fin 13, if n ≤ k.val then tallyAt (xRecvCell (xn c) k) () N else 0
/-- What is owed with `i` of the `y` transfers and `j` of the `x` transfers made. -/
def OO (c : Dev nD) (i j : ℕ) : CellTallies nD τ sig Unit := OY c i + OX c j
def O₁ (c : Dev nD) : CellTallies nD τ sig Unit := OO c 0 0 + tallyAt (barCell (xn c)) () 1
def O₀ (c : Dev nD) : CellTallies nD τ sig Unit := O₁ c + tallyAt (barCell (yn c)) () 1

theorem peel {A : Type} [AddCommMonoid A] {n : ℕ} (f : Fin n → A) (k : Fin n) :
    (∑ i : Fin n, if k.val ≤ i.val then f i else 0) = (∑ i : Fin n, if k.val + 1 ≤ i.val then f i else 0) + f k := by
  rw [← Finset.sum_erase_add _ _ (Finset.mem_univ k), if_pos (Nat.le_refl _),
    ← Finset.sum_erase_add Finset.univ (fun i : Fin n => if k.val + 1 ≤ i.val then f i else 0) (Finset.mem_univ k),
    if_neg (Nat.not_succ_le_self _), add_zero]
  congr 1
  refine Finset.sum_congr rfl fun i hi => ?_
  have : i.val ≠ k.val := fun h => (Finset.mem_erase.mp hi).1 (Fin.ext h)
  congr 1
  exact propext ⟨fun h => by omega, fun h => by omega⟩

theorem OO_y (c : Dev nD) (k : Fin 19) (j : ℕ) : OO c k.val j = OO c (k.val + 1) j + tallyAt (yRecvCell (yn c) k) () N := by
  unfold OO; rw [show OY c k.val = OY c (k.val + 1) + tallyAt (yRecvCell (yn c) k) () N from peel _ k, add_right_comm]
theorem OO_x (c : Dev nD) (i : ℕ) (k : Fin 13) : OO c i k.val = OO c i (k.val + 1) + tallyAt (xRecvCell (xn c) k) () N := by
  unfold OO; rw [show OX c k.val = OX c (k.val + 1) + tallyAt (xRecvCell (xn c) k) () N from peel _ k, add_assoc]
theorem OO_end (c : Dev nD) : OO c 19 13 = 0 := by
  unfold OO OY OX
  rw [Finset.sum_eq_zero fun k _ => if_neg (by omega), Finset.sum_eq_zero fun k _ => if_neg (by omega), add_zero]

def L (g : GSem nD τ sig) : Finset Unit := if g.1.2 = .tc then {()} else ∅
/-- Barrier cells at 1, the cells `y` transfers land on at 2, those `x` transfers land on at 3, all others at 0. -/
def lev (s : SemLoc sig) : ℕ := match s with
  | .reg _ => 1
  | .dma q => if 55 ≤ q.val then 3 else if 23 ≤ q.val ∧ q.val < 42 then 2 else 0
def lv (g : GSem nD τ sig) (_ : Unit) : ℕ := lev g.2

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {n : ℕ} {u : Unit} (h : 0 < tallyAt g () n g' u) : g' = g := by
  rw [tallyAt_apply] at h
  by_contra hn
  rw [if_neg (fun h' => hn h'.1)] at h
  exact Nat.lt_irrefl 0 h

theorem sum_pos' {n : ℕ} (p : Fin n → Prop) [DecidablePred p] (f : Fin n → GSem nD τ sig) (b : ℕ) {g : GSem nD τ sig} {u : Unit}
    (h : 0 < (∑ k : Fin n, if p k then tallyAt (Ix := Unit) (f k) () b else 0 : CellTallies nD τ sig Unit) g u) : ∃ k, p k ∧ g = f k := by
  rw [Finset.sum_apply, Finsupp.finset_sum_apply] at h
  obtain ⟨k, -, hk⟩ := Finset.exists_ne_zero_of_sum_ne_zero (Nat.pos_iff_ne_zero.mp h)
  refine ⟨k, ?_⟩
  by_cases hp : p k
  · rw [if_pos hp] at hk; exact ⟨hp, tally_pos (Nat.pos_of_ne_zero hk)⟩
  · rw [if_neg hp] at hk; exact absurd rfl hk

theorem OO_pos {c : Dev nD} {i j : ℕ} {g : GSem nD τ sig} {u : Unit} (h : 0 < OO c i j g u) :
    (∃ k : Fin 19, i ≤ k.val ∧ g = yRecvCell (yn c) k) ∨ ∃ k : Fin 13, j ≤ k.val ∧ g = xRecvCell (xn c) k := by
  unfold OO at h
  rw [Pi.add_apply, Finsupp.add_apply] at h
  rcases Nat.eq_zero_or_pos (OY c i g u) with h0 | h0
  · rw [h0, Nat.zero_add] at h; exact .inr (sum_pos' _ _ _ h)
  · exact .inl (sum_pos' _ _ _ h0)

theorem O₀_pos {c : Dev nD} {g : GSem nD τ sig} {u : Unit} (h : 0 < O₀ c g u) :
    (∃ d, g = barCell d) ∨ (∃ d k, g = yRecvCell d k) ∨ ∃ d k, g = xRecvCell d k := by
  unfold O₀ O₁ at h
  rw [Pi.add_apply, Finsupp.add_apply, Pi.add_apply, Finsupp.add_apply] at h
  rcases Nat.eq_zero_or_pos (tallyAt (Ix := Unit) (barCell (yn c)) () 1 g u) with h1 | h1
  · rcases Nat.eq_zero_or_pos (tallyAt (Ix := Unit) (barCell (xn c)) () 1 g u) with h2 | h2
    · rw [h1, h2] at h
      have h' : 0 < OO c 0 0 g u := by simpa only [Nat.add_zero] using h
      rcases OO_pos h' with ⟨k, -, rfl⟩ | ⟨k, -, rfl⟩
      · exact .inr (.inl ⟨yn c, k, rfl⟩)
      · exact .inr (.inr ⟨xn c, k, rfl⟩)
    · exact .inl ⟨xn c, tally_pos h2⟩
  · exact .inl ⟨yn c, tally_pos h1⟩

/-- A wait below every level owed to. -/
theorem mayWait_of (c : Dev nD) (s : SemLoc sig) (O : CellTallies nD τ sig Unit)
    (h : ∀ g u, 0 < O g u → g.1.2 = .tc ∧ lev s < lev g.2) :
    (levAts L lv : sProp 𝕄) ⊢ MayWait (c : Thread nD τ) s () O :=
  MayOwe.of_cut (L := L) (lev := lv) (lev s) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact Nat.le_refl _)
    (fun g u hg => (h g u hg).2)

theorem lev_y (k : Fin 19) : lev (.dma (yRecvS k)) = 2 := by revert k; decide
theorem lev_x (k : Fin 13) : lev (.dma (xRecvS k)) = 3 := by revert k; decide

theorem mayWait_bar (c : Dev nD) : (levAts L lv : sProp 𝕄) ⊢ MayWait (c : Thread nD τ) (.reg barS) () (OO c 0 0) :=
  mayWait_of c _ _ fun g u hg => by
    rcases OO_pos hg with ⟨k, -, rfl⟩ | ⟨k, -, rfl⟩
    · exact ⟨rfl, by rw [lev_y]; decide⟩
    · exact ⟨rfl, by rw [lev_x]; decide⟩

theorem mayWait_y (c : Dev nD) (k : Fin 19) (j : ℕ) : (levAts L lv : sProp 𝕄) ⊢ MayWait (c : Thread nD τ) (.dma (yRecvS k)) () (OO c 19 j) :=
  mayWait_of c _ _ fun g u hg => by
    rcases OO_pos hg with ⟨k', hk, rfl⟩ | ⟨k', -, rfl⟩
    · exact absurd k'.isLt (by omega)
    · exact ⟨rfl, by rw [lev_x, lev_y]; decide⟩

theorem mayWait_stage (c : Dev nD) (q : DmaSem sig) (hq : lev (.dma q) = 0) (O : CellTallies nD τ sig Unit) (hO : O = O₀ c ∨ O = 0) :
    (levAts L lv : sProp 𝕄) ⊢ MayWait (c : Thread nD τ) (.dma q) () O := by
  rcases hO with rfl | rfl
  · refine mayWait_of c _ _ fun g u hg => ?_
    rw [hq]
    rcases O₀_pos hg with ⟨d, rfl⟩ | ⟨d, k, rfl⟩ | ⟨d, k, rfl⟩
    · exact ⟨rfl, Nat.one_pos⟩
    · exact ⟨rfl, by rw [lev_y]; decide⟩
    · exact ⟨rfl, by rw [lev_x]; decide⟩
  · rw [MayWait_zero]; iintro -; iempintro

/-! ## Families of which the first few have changed -/

section Fam
variable {n : ℕ} (A B : Fin n → sProp (MT nD τ sig Unit (Elt F) ℕ UU ℕ))

def Fam (i : ℕ) : sProp 𝕄 := bigSep Finset.univ fun k : Fin n => if k.val < i then B k else A k

theorem fam_zero : Fam A B 0 = bigSep Finset.univ A := bigSep_congr fun k _ => if_neg (Nat.not_lt_zero _)
theorem fam_full : Fam A B n = bigSep Finset.univ B := bigSep_congr fun k _ => if_pos k.isLt

theorem fam_split (k : Fin n) (i : ℕ) : Fam A B i = iprop((if k.val < i then B k else A k) ∗ bigSep (Finset.univ.erase k) fun k : Fin n => if k.val < i then B k else A k) :=
  bigSep_erase (Finset.mem_univ k)

/-- The next member of the family is changed. -/
theorem fam_step (k : Fin n) {i i' : ℕ} (h : i = k.val) (h' : i' = k.val + 1) : Fam A B i ⊢ iprop(A k ∗ (B k -∗ Fam A B i')) := by
  subst h h'
  rw [fam_split A B k, fam_split A B k (k.val + 1), if_neg (Nat.lt_irrefl _), if_pos (Nat.lt_succ_self _)]
  have : (bigSep (Finset.univ.erase k) fun j : Fin n => if j.val < k.val then B j else A j)
      = bigSep (Finset.univ.erase k) fun j : Fin n => if j.val < k.val + 1 then B j else A j :=
    bigSep_congr fun j hj => by
      have : j.val ≠ k.val := fun h => (Finset.mem_erase.mp hj).1 (Fin.ext h)
      congr 1
      exact propext ⟨fun h => by omega, fun h => by omega⟩
  rw [this]
  iintro ⟨HA, HX⟩
  isplitl [HA]
  · iexact HA
  iintro HB
  isplitl [HB]
  · iexact HB
  iexact HX

/-- A changed member is used. -/
theorem fam_at (k : Fin n) {i : ℕ} (h : k.val < i) : Fam A B i ⊢ iprop(B k ∗ (B k -∗ Fam A B i)) := by
  rw [fam_split A B k, if_pos h]
  iintro ⟨HA, HX⟩
  isplitl [HA]
  · iexact HA
  iintro HB
  isplitl [HB]
  · iexact HB
  iexact HX

/-- A member not yet changed is used. -/
theorem fam_at' (k : Fin n) {i : ℕ} (h : ¬ k.val < i) : Fam A B i ⊢ iprop(A k ∗ (A k -∗ Fam A B i)) := by
  rw [fam_split A B k, if_neg h]
  iintro ⟨HA, HX⟩
  isplitl [HA]
  · iexact HA
  iintro HB
  isplitl [HB]
  · iexact HB
  iexact HX

/-- A changed member is used up while what it is changed to moves on. -/
theorem fam_upd (B' : Fin n → sProp (MT nD τ sig Unit (Elt F) ℕ UU ℕ)) (k : Fin n) {i : ℕ} (h : k.val < i) (hB : ∀ j, j ≠ k → B j = B' j) :
    Fam A B i ⊢ iprop(B k ∗ (B' k -∗ Fam A B' i)) := by
  rw [fam_split A B k, fam_split A B' k, if_pos h, if_pos h]
  have : (bigSep (Finset.univ.erase k) fun j : Fin n => if j.val < i then B j else A j)
      = bigSep (Finset.univ.erase k) fun j : Fin n => if j.val < i then B' j else A j :=
    bigSep_congr fun j hj => by rw [hB j (Finset.mem_erase.mp hj).1]
  rw [this]
  iintro ⟨HA, HX⟩
  isplitl [HA]
  · iexact HA
  iintro HB
  isplitl [HB]
  · iexact HB
  iexact HX

end Fam

end Cert.KernelIdeal.Own
end
-- ==== Proof.KernelIdealSteps.lean ====
module

public import proofs.«01_k».proof.Proof.KernelIdealSched

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The persistent context -/

/-- Every cell's invariant, under the names the launch allocated, and that each has reached round 0. -/
def records : sProp 𝕄 :=
  iprop((bigSep Finset.univ fun ck : Dev nD × CI => cellInv ER (Rd m) (K ck) (cell ck.1 ck.2))
    ∗ bigSep Finset.univ fun ck : Dev nD × CI => reached ER (cell ck.1 ck.2) 0)

instance records_persistent : BI.Persistent (records (F := F) m K) := by unfold records; infer_instance

def Ctx : sProp 𝕄 := iprop(records m K ∗ levAts L lv)
instance ctx_persistent : BI.Persistent (Ctx (F := F) m K) := by unfold Ctx; infer_instance

theorem ctx_inv (c : Dev nD) (i : CI) : Ctx (F := F) m K ⊢ cellInv ER (Rd m) (K (c, i)) (cell c i) := by
  have h : (bigSep Finset.univ fun ck : Dev nD × CI => (cellInv ER (Rd m) (K ck) (cell ck.1 ck.2) : sProp 𝕄)) ⊢ cellInv ER (Rd m) (K (c, i)) (cell c i) :=
    bigSep_elim (Finset.mem_univ (c, i))
  unfold Ctx records
  iintro ⟨⟨H, -⟩, -⟩
  iapply h; iexact H

theorem ctx_reached (c : Dev nD) (i : CI) : Ctx (F := F) m K ⊢ reached ER (cell c i) 0 := by
  have h : (bigSep Finset.univ fun ck : Dev nD × CI => (reached ER (cell ck.1 ck.2) 0 : sProp 𝕄)) ⊢ reached ER (cell c i) 0 :=
    bigSep_elim (Finset.mem_univ (c, i))
  unfold Ctx records
  iintro ⟨⟨-, H⟩, -⟩
  iapply h; iexact H

theorem ctx_lev : Ctx (F := F) m K ⊢ levAts L lv := by
  unfold Ctx; iintro ⟨-, H⟩; iexact H

/-! ## The state of the body -/

abbrev iYS (k : Fin 19) : CI := .inr (.inl (.inl k))
abbrev iYR (k : Fin 19) : CI := .inr (.inl (.inr k))
abbrev iXS (k : Fin 13) : CI := .inr (.inr (.inl k))
abbrev iXR (k : Fin 13) : CI := .inr (.inr (.inr k))

section State
variable (c : Dev nD)

/-- `y` transfer `k`: before its issue, in flight or landed, its source taken back. -/
def YU (k : Fin 19) : sProp 𝕄 :=
  iprop((pLoc c ↦{pTok k} P m c) ∗ (∃ f, commPts (yn c) k f) ∗ dutyTok ER (ySendCell c k) 0 false ∗ dutyTok ER (yRecvCell (yn c) k) 0 false
    ∗ atPos ER (ySendCell c k) 0 ∅ 0)
def YS (k : Fin 19) : sProp 𝕄 :=
  iprop(cred (tallyAt (ySendCell c k) () N) ∗ (pLoc c ↦[Finset.univ \ (pRow (yn c) k).view.set]{pTok k} P m c) ∗ atPos ER (ySendCell c k) 0 ∅ 0)
def YD (k : Fin 19) : sProp 𝕄 := iprop((pLoc c ↦{pTok k} P m c) ∗ atPos ER (ySendCell c k) 1 ∅ 0)

/-- Slot `k`: before and after its wait. -/
def RP (k : Fin 19) : sProp 𝕄 := iprop(cred (tallyAt (yRecvCell c k) () N) ∗ atPos ER (yRecvCell c k) 0 ∅ 0)
def RG (k : Fin 19) : sProp 𝕄 := iprop(commPts c k (commAt m c) ∗ atPos ER (yRecvCell c k) 1 ∅ 0)

/-- Own rows: before and after the store; the first 13 go out with the `x` transfers. -/
def OR (k : Fin 19) : sProp 𝕄 := iprop(∃ f, oPts (F := F) c c k f)
def OS (xs : ℕ) (k : Fin 19) : sProp 𝕄 := if k.val < 13 ∧ k.val < xs then iprop(emp) else oPts c c k (outAt m c)

/-- `x` transfer `k`. -/
def XU (k : Fin 13) : sProp 𝕄 :=
  iprop((∃ f, oPts (F := F) (xn c) c (up13 k) f) ∗ dutyTok ER (xSendCell c k) 0 false ∗ dutyTok ER (xRecvCell (xn c) k) 0 false
    ∗ atPos ER (xSendCell c k) 0 ∅ 0)
def XS (k : Fin 13) : sProp 𝕄 := iprop(cred (tallyAt (xSendCell c k) () N) ∗ atPos ER (xSendCell c k) 0 ∅ 0)
def XD (k : Fin 13) : sProp 𝕄 := iprop(oPts c c (up13 k) (outAt m c) ∗ atPos ER (xSendCell c k) 1 ∅ 0)

/-- Rows the `x` neighbour sends. -/
def VP (k : Fin 13) : sProp 𝕄 := iprop(cred (tallyAt (xRecvCell c k) () N) ∗ atPos ER (xRecvCell c k) 0 ∅ 0)
def VG (k : Fin 13) : sProp 𝕄 := iprop(oPts c (xn c) (up13 k) (outAt m c) ∗ atPos ER (xRecvCell c k) 1 ∅ 0)

/-- What the loads read besides, the staged operands; and the barrier's position, past its one round. -/
def Ops : sProp 𝕄 :=
  iprop((pLoc c ↦{Transfers.shareDrop fullShare 19} P m c) ∗ (rLoc c ↦{fullShare} R m c) ∗ (gLoc c ↦{fullShare} G m c)
    ∗ atPos ER (barCell c) 1 ∅ 0)

/-- With `ys` `y` transfers and `xs` `x` transfers made, `yr` slots waited for and `st` chunks stored. -/
def St (PRE : sProp 𝕄) (ys yr st xs : ℕ) : sProp 𝕄 :=
  iprop(Ctx m K ∗ Fam (YU m c) (YS m c) ys ∗ Fam (RP c) (RG m c) yr ∗ Fam (OR c) (OS m c xs) st ∗ Fam (XU c) (XS (F := F) c) xs
    ∗ (∃ W, owes (c : Thread nD τ) (OO c ys xs) W) ∗ PRE ∗ Ops m c ∗ Fam (VP c) (VG m c) 0)

/-- With all transfers made: `xr` of the `x` neighbour's chunks, `xw` and `yw` of the own transfers waited for. -/
def St2 (REST : sProp 𝕄) (xr xw yw : ℕ) : sProp 𝕄 :=
  iprop(Ctx m K ∗ Fam (VP c) (VG m c) xr ∗ Fam (XS c) (XD m c) xw ∗ Fam (YS m c) (YD m c) yw
    ∗ (∃ W, owes (c : Thread nD τ) 0 W) ∗ REST)

/-- What is left over of the first part of the body. -/
def Rest (PRE : sProp 𝕄) : sProp 𝕄 :=
  iprop(bigSep Finset.univ (RG m c) ∗ bigSep Finset.univ (OS m c 13) ∗ PRE ∗ Ops m c)

theorem st_st2 (PRE : sProp 𝕄) : St m K c PRE 19 19 19 13 ⊢ St2 m K c (Rest m c PRE) 0 0 0 := by
  unfold St St2 Rest
  rw [fam_full, fam_full, fam_full, fam_full, fam_zero (XS c), fam_zero (YS m c), OO_end]
  iintro ⟨HC, HY, HR, HO, HX, Ho, HP, Hops, HV⟩
  isplitl [HC]; · iexact HC
  isplitl [HV]; · iexact HV
  isplitl [HX]; · iexact HX
  isplitl [HY]; · iexact HY
  isplitl [Ho]; · iexact Ho
  isplitl [HR]; · iexact HR
  isplitl [HO]; · iexact HO
  isplitl [HP]; · iexact HP
  iexact Hops

/-- The receive buffer of the own half, filled. -/
def Pre : sProp 𝕄 := preLoc c ↦{fullShare} preAt m c
def PreRaw : sProp 𝕄 := iprop(∃ f : Buf (Elt F) (preLoc c), preLoc c ↦{fullShare} f)

end State

/-! ## The transfers -/

section Steps
variable {c : Dev nD} {PRE : sProp (MT nD τ sig Unit (Elt F) ℕ UU ℕ)}
variable {α : Type} {Q : α → sProp (MT nD τ sig Unit (Elt F) ℕ UU ℕ)} {kk : PUnit → Prog (TpuEff nD τ sig (Elt F) Λ₀ .tc) α}

theorem mem_dut (k : KI) (c : Dev nD) : false ∈ (Rd (F := F) m).duties (cell c (.inr k)) 0 := by
  rw [duties_cell]; exact Finset.mem_singleton_self _

theorem step_ysend {yr st xs i i' : ℕ} (k : Fin 19) (hi : i = k.val) (hi' : i' = k.val + 1)
    {off : Fin 2 → ℕ} {inb : ∀ a, off a + S16x512.size a ≤ S512x512.size a} (hoff : off = rOff (yn c) k)
    {offc : Fin 3 → ℕ} {inbc : ∀ a, offc a + S1x16x512.size a ≤ S19x16x512.size a} (hoffc : offc = cOff k)
    {n : Dev nD} (hn : n = yn c) {qs qr : DmaSem sig} (hqs : qs = ySendS k) (hqr : qr = yRecvS k)
    {hsc : ((cM.slice (Rect.unit (s := S19x16x512) offc S1x16x512.size inbc) (fun _ => rfl)).squeeze S16x512 Facts₀.squeezes_S1x16x512_S16x512 : Memref sig (Dev.tc n : Thread nD τ).2.kind .vmem S16x512 .f32).view.ref.isScScratch = false}
    {hsrc : (sqM.slice (Rect.unit (s := S512x512) off S16x512.size inb) (fun _ => rfl)).view.WordExact}
    {hdst : ((cM.slice (Rect.unit (s := S19x16x512) offc S1x16x512.size inbc) (fun _ => rfl)).squeeze S16x512 Facts₀.squeezes_S1x16x512_S16x512).view.WordExact}
    {hsem : DmaTarget.Typed .vmem (.dma qr) (.remote (Dev.tc n : Thread nD τ) ((cM.slice (Rect.unit (s := S19x16x512) offc S1x16x512.size inbc) (fun _ => rfl)).squeeze S16x512 Facts₀.squeezes_S1x16x512_S16x512) (.dma qs) hsc)} :
    St m K c PRE i yr st xs ⊢ iprop((St m K c PRE i' yr st xs -∗ WP c (kk ⟨⟩) Q)
      -∗ WP c (.op (.enqueueDma (sqM.slice (Rect.unit (s := S512x512) off S16x512.size inb) (fun _ => rfl))
          (.remote (Dev.tc n : Thread nD τ) ((cM.slice (Rect.unit (s := S19x16x512) offc S1x16x512.size inbc) (fun _ => rfl)).squeeze S16x512 Facts₀.squeezes_S1x16x512_S16x512) (.dma qs) hsc)
          (.dma qr) hsrc hdst hsem) kk) Q) := by
  subst hoff hoffc hn hqs hqr
  unfold St
  iintro ⟨#HC, HY, HR, HO, HX, ⟨%W, Ho⟩, Hrest⟩ Hk
  ihave HY := (fam_step (YU m c) (YS m c) k hi hi') $$ HY
  icases HY with ⟨Hu, HY⟩
  unfold YU
  icases Hu with ⟨Hp, ⟨%f, Hf⟩, Ht1, Ht2, Hat⟩
  ihave Hp := (pointsTo_split_subset (Finset.subset_univ (pRow (yn c) k).view.set)).1 $$ Hp
  icases Hp with ⟨Hp, Hpc⟩
  unfold commPts
  subst hi
  iapply (Rounds.wp_send_pointsTo 𝒱₀ ER (Rd m) (c : Thread nD τ) none (κ₁ := K (c, iYS k)) (κ₂ := K (yn c, iYR k))
    (r₁ := 0) (r₂ := 0) (d₁ := false) (d₂ := false) (fd := f) (c' := (yn c : Thread nD τ)) (src := pRow (yn c) k) (dst := cSlot k) (fs := P m c) (q := pTok k)
    (mem_dut m (.inl (.inl k)) c) (mem_dut m (.inl (.inr k)) (yn c)) () () N rfl
    (amount_cell m c (iYS k) false) (amount_cell m (yn c) (iYR k) false) (OO c (k.val + 1) xs) (OO_y c k xs) (W := W)
    (Entails.of_eq (payload_cell m c (iYS k) false).symm)
    (by
      refine (Entails.of_eq (pointsTo_congr fun i hi => ?_)).trans (Entails.of_eq (payload_cell m (yn c) (iYR k) false).symm)
      refine Eq.trans ?_ (commAt_eq m (yn c) k f i hi)
      unfold commOf
      rw [yn_yn]
      rfl)) $$ [Hp Hf Ho Ht1 Ht2]
  · isplitr; · iapply (ctx_inv m K c (iYS k)); iexact HC
    isplitr; · iapply (ctx_inv m K (yn c) (iYR k)); iexact HC
    isplitl [Hp]; · iexact Hp
    isplitl [Hf]; · iexact Hf
    isplitl [Ho]; · iexact Ho
    isplitl [Ht1]; · iexact Ht1
    isplitr; · iapply (ctx_reached m K c (iYS k)); iexact HC
    isplitl [Ht2]; · iexact Ht2
    iapply (ctx_reached m K (yn c) (iYR k)); iexact HC
  iintro ⟨Hc, Ho⟩
  iapply Hk
  subst hi'
  isplitr; · iexact HC
  isplitl [HY Hc Hpc Hat]
  · iapply HY
    unfold YS
    isplitl [Hc]; · iexact Hc
    isplitl [Hpc]; · iexact Hpc
    iexact Hat
  isplitl [HR]; · iexact HR
  isplitl [HO]; · iexact HO
  isplitl [HX]; · iexact HX
  isplitl [Ho]; · iexists W; iexact Ho
  iexact Hrest

theorem OS_of (xs : ℕ) (k : Fin 19) (h : ¬ (k.val < 13 ∧ k.val < xs)) : OS m c xs k = oPts c c k (outAt m c) := if_neg h

theorem step_xsend {ys yr st i i' : ℕ} (k : Fin 13) (hi : i = k.val) (hi' : i' = k.val + 1) (hst : k.val < st)
    {off : Fin 2 → ℕ} {inb : ∀ a, off a + S16x512.size a ≤ S512x512.size a} (hoff : off = rOff c k)
    {n : Dev nD} (hn : n = xn c) {qs qr : DmaSem sig} (hqs : qs = xSendS k) (hqr : qr = xRecvS k)
    {hsc : ((oM.slice (Rect.unit (s := S512x512) off S16x512.size inb) (fun _ => rfl)) : Memref sig (Dev.tc n : Thread nD τ).2.kind .vmem S16x512 .f32).view.ref.isScScratch = false}
    {hsrc : (oM.slice (Rect.unit (s := S512x512) off S16x512.size inb) (fun _ => rfl)).view.WordExact}
    {hdst : (oM.slice (Rect.unit (s := S512x512) off S16x512.size inb) (fun _ => rfl)).view.WordExact}
    {hsem : DmaTarget.Typed .vmem (.dma qr) (.remote (Dev.tc n : Thread nD τ) (oM.slice (Rect.unit (s := S512x512) off S16x512.size inb) (fun _ => rfl)) (.dma qs) hsc)} :
    St m K c PRE ys yr st i ⊢ iprop((St m K c PRE ys yr st i' -∗ WP c (kk ⟨⟩) Q)
      -∗ WP c (.op (.enqueueDma (oM.slice (Rect.unit (s := S512x512) off S16x512.size inb) (fun _ => rfl))
          (.remote (Dev.tc n : Thread nD τ) (oM.slice (Rect.unit (s := S512x512) off S16x512.size inb) (fun _ => rfl)) (.dma qs) hsc)
          (.dma qr) hsrc hdst hsem) kk) Q) := by
  subst hoff hn hqs hqr hi hi'
  unfold St
  iintro ⟨#HC, HY, HR, HO, HX, ⟨%W, Ho⟩, Hrest⟩ Hk
  ihave HX := (fam_step (XU c) (XS (F := F) c) k rfl rfl) $$ HX
  icases HX with ⟨Hu, HX⟩
  have hB : ∀ j, j ≠ up13 k → OS m c k.val j = OS m c (k.val + 1) j := fun j hj => by
    have : j.val ≠ k.val := fun h => hj (Fin.ext h)
    unfold OS
    congr 1
    exact propext ⟨fun h => ⟨h.1, by omega⟩, fun h => ⟨h.1, by omega⟩⟩
  ihave HO := (fam_upd (OR c) (OS m c k.val) (OS m c (k.val + 1)) (up13 k) hst hB) $$ HO
  icases HO with ⟨Hs, HO⟩
  ihave Hs := (Entails.of_eq (OS_of m k.val (up13 k) (fun h => Nat.lt_irrefl _ h.2))) $$ Hs
  ihave Hu := (show XU (F := F) c k ⊢ iprop((∃ f : Buf (Elt F) (oLoc (xn c)), oLoc (xn c) ↦[(oRow c (up13 k)).view.set]{fullShare} f)
    ∗ dutyTok ER (xSendCell c k) 0 false ∗ dutyTok ER (xRecvCell (xn c) k) 0 false ∗ atPos ER (xSendCell c k) 0 ∅ 0) from BI.Entails.refl _) $$ Hu
  ihave Hs := (show oPts c c (up13 k) (outAt m c) ⊢ (oLoc c ↦[(oRow c (up13 k)).view.set]{fullShare} outAt m c : sProp 𝕄) from BI.Entails.refl _) $$ Hs
  icases Hu with ⟨⟨%f, Hf⟩, Ht1, Ht2, Hat⟩
  iapply (Rounds.wp_send_pointsTo 𝒱₀ ER (Rd m) (c : Thread nD τ) none (κ₁ := K (c, iXS k)) (κ₂ := K (xn c, iXR k))
    (r₁ := 0) (r₂ := 0) (d₁ := false) (d₂ := false) (fd := f) (c' := (xn c : Thread nD τ)) (src := oRow c (up13 k)) (dst := oRow c (up13 k)) (fs := outAt m c) (q := fullShare)
    (mem_dut m (.inr (.inl k)) c) (mem_dut m (.inr (.inr k)) (xn c)) () () N rfl
    (amount_cell m c (iXS k) false) (amount_cell m (xn c) (iXR k) false) (OO c ys (k.val + 1)) (OO_x c ys k) (W := W)
    (Entails.of_eq (payload_cell m c (iXS k) false).symm)
    (by
      refine (Entails.of_eq (pointsTo_congr fun i hi => copy_outAt m c (up13 k) k.isLt f i hi)).trans
        (Entails.of_eq (Eq.trans ?_ (payload_cell m (xn c) (iXR k) false).symm))
      show _ = oPts (xn c) (xn (xn c)) (up13 k) (outAt m (xn c))
      rw [xn_xn]
      rfl)) $$ [Hs Hf Ho Ht1 Ht2]
  · isplitr; · iapply (ctx_inv m K c (iXS k)); iexact HC
    isplitr; · iapply (ctx_inv m K (xn c) (iXR k)); iexact HC
    isplitl [Hs]; · iexact Hs
    isplitl [Hf]; · iexact Hf
    isplitl [Ho]; · iexact Ho
    isplitl [Ht1]; · iexact Ht1
    isplitr; · iapply (ctx_reached m K c (iXS k)); iexact HC
    isplitl [Ht2]; · iexact Ht2
    iapply (ctx_reached m K (xn c) (iXR k)); iexact HC
  iintro ⟨Hc, Ho⟩
  iapply Hk
  isplitr; · iexact HC
  isplitl [HY]; · iexact HY
  isplitl [HR]; · iexact HR
  isplitl [HO]
  · iapply HO
    unfold OS
    rw [if_pos (show (up13 k).val < 13 ∧ (up13 k).val < k.val + 1 from ⟨k.isLt, Nat.lt_succ_self _⟩)]
    iempintro
  isplitl [HX Hc Hat]
  · iapply HX
    unfold XS
    isplitl [Hc]; · iexact Hc
    iexact Hat
  isplitl [Ho]; · iexists W; iexact Ho
  iexact Hrest

/-! ## The waits -/

variable {sp sp' : Space} {s s' : Shape} {e e' : EltTy} {κ' : Kind}

/-- A wait for one of the device's own transfer cells, for its whole round. -/
theorem own_wait (k : KI) (c : Dev nD) {q : DmaSem sig} (hq : osem k = .dma q) {src : Memref sig .tc sp' s' e'} {dst : Memref sig κ' sp s e}
    {hsrc : src.view.WordExact} {hdst : dst.view.WordExact} (hN : dst.view.dmaCredit = N) (O : CellTallies nD τ sig Unit)
    (hO : (levAts L lv : sProp 𝕄) ⊢ MayWait (c : Thread nD τ) (osem k) () O) :
    iprop(Ctx m K ∗ cred (tallyAt (cell c (.inr k)) () N) ∗ (∃ W, owes (c : Thread nD τ) O W) ∗ atPos ER (cell c (.inr k)) 0 ∅ 0)
      ⊢ iprop(((∃ W, owes (c : Thread nD τ) O W) ∗ atPos ER (cell c (.inr k)) 1 ∅ 0 ∗ pay m c (.inr k) false -∗ WP c (kk ⟨⟩) Q)
          -∗ WP c (.op (.waitDma2 q src dst hsrc hdst) kk) Q) := by
  iintro ⟨#HC, Hc, ⟨%W, Ho⟩, Hat⟩ Hk
  have hcell : cell c (.inr k) = ((c : Thread nD τ), SemLoc.dma q) := congrArg (Prod.mk (c : Thread nD τ)) hq
  have hinv := ctx_inv m K c (.inr k)
  have hexp := expect_own m c k
  have hrest := rest_own m c k
  rw [hq] at hO
  rw [hcell] at hinv hexp hrest ⊢
  iapply (Rounds.wp_wait_rest_token 𝒱₀ ER (Rd m) (c : Thread nD τ) none (κ := K (c, .inr k))
      (wpE_waitDma2_eq 𝒱₀ (c : Thread nD τ) none Set.univ) (Set.mem_univ _) () (O := O) (W := W) (R := 0) (m := 0) (T := ∅)
      (by rw [Nat.zero_add, hexp, hN])) $$ [Hc Ho Hat]
  · isplitr; · iapply hinv; iexact HC
    isplitl [Hc]; · rw [hN]; iexact Hc
    isplitl [Ho]; · iexact Ho
    isplitr
    · iapply hO
      iapply (ctx_lev m K); iexact HC
    iexact Hat
  iintro ⟨Ho, Hat, -, Hpay⟩
  ihave Hpay := (Entails.of_eq hrest) $$ Hpay
  iapply Hk
  isplitl [Ho]; · iexists _; iexact Ho
  isplitl [Hat]; · iexact Hat
  iexact Hpay

theorem step_ywait {st xs i i' : ℕ} (k : Fin 19) (hi : i = k.val) (hi' : i' = k.val + 1) {q : DmaSem sig} (hq : q = yRecvS k)
    {src : Memref sig .tc sp' s' e'} {dst : Memref sig κ' sp s e}
    {hsrc : src.view.WordExact} {hdst : dst.view.WordExact} (hN : dst.view.dmaCredit = N) :
    St m K c PRE 19 i st xs ⊢ iprop((St m K c PRE 19 i' st xs -∗ WP c (kk ⟨⟩) Q)
      -∗ WP c (.op (.waitDma2 q src dst hsrc hdst) kk) Q) := by
  subst hq hi hi'
  unfold St
  iintro ⟨#HC, HY, HR, HO, HX, Ho, Hrest⟩ Hk
  ihave HR := (fam_step (RP c) (RG m c) k rfl rfl) $$ HR
  icases HR with ⟨Hu, HR⟩
  unfold RP
  icases Hu with ⟨Hc, Hat⟩
  iapply (own_wait m K (.inl (.inr k)) c (q := yRecvS k) rfl hN (OO c 19 xs) (mayWait_y c k xs)) $$ [Hc Ho Hat]
  · isplitr; · iexact HC
    isplitl [Hc]; · iexact Hc
    isplitl [Ho]; · iexact Ho
    iexact Hat
  iintro ⟨Ho, Hat, Hp⟩
  ihave Hp := (Entails.of_eq (show pay m c (.inr (.inl (.inr k))) false = commPts c k (commAt m c) from rfl)) $$ Hp
  iapply Hk
  isplitr; · iexact HC
  isplitl [HY]; · iexact HY
  isplitl [HR Hat Hp]
  · iapply HR
    unfold RG
    isplitl [Hp]; · iexact Hp
    iexact Hat
  isplitl [HO]; · iexact HO
  isplitl [HX]; · iexact HX
  isplitl [Ho]; · iexact Ho
  iexact Hrest

theorem mayWait_none (c : Dev nD) (s : SemLoc sig) : (levAts L lv : sProp 𝕄) ⊢ MayWait (c : Thread nD τ) s () 0 := by
  rw [MayWait_zero]; iintro -; iempintro

variable {REST : sProp (MT nD τ sig Unit (Elt F) ℕ UU ℕ)}

theorem step_vwait {i i' xw yw : ℕ} (k : Fin 13) (hi : i = k.val) (hi' : i' = k.val + 1) {q : DmaSem sig} (hq : q = xRecvS k)
    {src : Memref sig .tc sp' s' e'} {dst : Memref sig κ' sp s e}
    {hsrc : src.view.WordExact} {hdst : dst.view.WordExact} (hN : dst.view.dmaCredit = N) :
    St2 m K c REST i xw yw ⊢ iprop((St2 m K c REST i' xw yw -∗ WP c (kk ⟨⟩) Q)
      -∗ WP c (.op (.waitDma2 q src dst hsrc hdst) kk) Q) := by
  subst hq hi hi'
  unfold St2
  iintro ⟨#HC, HV, HX, HY, Ho, Hrest⟩ Hk
  ihave HV := (fam_step (VP c) (VG m c) k rfl rfl) $$ HV
  icases HV with ⟨Hu, HV⟩
  unfold VP
  icases Hu with ⟨Hc, Hat⟩
  iapply (own_wait m K (.inr (.inr k)) c (q := xRecvS k) rfl hN 0 (mayWait_none c _)) $$ [Hc Ho Hat]
  · isplitr; · iexact HC
    isplitl [Hc]; · iexact Hc
    isplitl [Ho]; · iexact Ho
    iexact Hat
  iintro ⟨Ho, Hat, Hp⟩
  ihave Hp := (Entails.of_eq (show pay m c (.inr (.inr (.inr k))) false = oPts c (xn c) (up13 k) (outAt m c) from rfl)) $$ Hp
  iapply Hk
  isplitr; · iexact HC
  isplitl [HV Hat Hp]
  · iapply HV
    unfold VG
    isplitl [Hp]; · iexact Hp
    iexact Hat
  isplitl [HX]; · iexact HX
  isplitl [HY]; · iexact HY
  isplitl [Ho]; · iexact Ho
  iexact Hrest

theorem step_xwait {xr i i' yw : ℕ} (k : Fin 13) (hi : i = k.val) (hi' : i' = k.val + 1) {q : DmaSem sig} (hq : q = xSendS k)
    {src : Memref sig .tc sp' s' e'} {dst : Memref sig κ' sp s e}
    {hsrc : src.view.WordExact} {hdst : dst.view.WordExact} (hN : dst.view.dmaCredit = N) :
    St2 m K c REST xr i yw ⊢ iprop((St2 m K c REST xr i' yw -∗ WP c (kk ⟨⟩) Q)
      -∗ WP c (.op (.waitDma2 q src dst hsrc hdst) kk) Q) := by
  subst hq hi hi'
  unfold St2
  iintro ⟨#HC, HV, HX, HY, Ho, Hrest⟩ Hk
  ihave HX := (fam_step (XS c) (XD m c) k rfl rfl) $$ HX
  icases HX with ⟨Hu, HX⟩
  unfold XS
  icases Hu with ⟨Hc, Hat⟩
  iapply (own_wait m K (.inr (.inl k)) c (q := xSendS k) rfl hN 0 (mayWait_none c _)) $$ [Hc Ho Hat]
  · isplitr; · iexact HC
    isplitl [Hc]; · iexact Hc
    isplitl [Ho]; · iexact Ho
    iexact Hat
  iintro ⟨Ho, Hat, Hp⟩
  ihave Hp := (Entails.of_eq (show pay m c (.inr (.inr (.inl k))) false = oPts c c (up13 k) (outAt m c) from rfl)) $$ Hp
  iapply Hk
  isplitr; · iexact HC
  isplitl [HV]; · iexact HV
  isplitl [HX Hat Hp]
  · iapply HX
    unfold XD
    isplitl [Hp]; · iexact Hp
    iexact Hat
  isplitl [HY]; · iexact HY
  isplitl [Ho]; · iexact Ho
  iexact Hrest

theorem step_swait {xr xw i i' : ℕ} (k : Fin 19) (hi : i = k.val) (hi' : i' = k.val + 1) {q : DmaSem sig} (hq : q = ySendS k)
    {src : Memref sig .tc sp' s' e'} {dst : Memref sig κ' sp s e}
    {hsrc : src.view.WordExact} {hdst : dst.view.WordExact} (hN : dst.view.dmaCredit = N) :
    St2 m K c REST xr xw i ⊢ iprop((St2 m K c REST xr xw i' -∗ WP c (kk ⟨⟩) Q)
      -∗ WP c (.op (.waitDma2 q src dst hsrc hdst) kk) Q) := by
  subst hq hi hi'
  unfold St2
  iintro ⟨#HC, HV, HX, HY, Ho, Hrest⟩ Hk
  ihave HY := (fam_step (YS m c) (YD m c) k rfl rfl) $$ HY
  icases HY with ⟨Hu, HY⟩
  unfold YS
  icases Hu with ⟨Hc, Hpc, Hat⟩
  iapply (own_wait m K (.inl (.inl k)) c (q := ySendS k) rfl hN 0 (mayWait_none c _)) $$ [Hc Ho Hat]
  · isplitr; · iexact HC
    isplitl [Hc]; · iexact Hc
    isplitl [Ho]; · iexact Ho
    iexact Hat
  iintro ⟨Ho, Hat, Hp⟩
  ihave Hp := (Entails.of_eq (show pay m c (.inr (.inl (.inl k))) false = pPts m c k from rfl)) $$ Hp
  unfold pPts
  iapply Hk
  isplitr; · iexact HC
  isplitl [HV]; · iexact HV
  isplitl [HX]; · iexact HX
  isplitl [HY Hat Hp Hpc]
  · iapply HY
    unfold YD
    isplitl [Hp Hpc]
    · iapply (pointsTo_split_subset (Finset.subset_univ (pRow (yn c) k).view.set)).2
      isplitl [Hp]; · iexact Hp
      iexact Hpc
    iexact Hat
  isplitl [Ho]; · iexact Ho
  iexact Hrest

end Steps

end Cert.KernelIdeal.Own
end
-- ==== Proof.KernelIdealLoads.lean ====
module

public import proofs.«01_k».proof.Proof.KernelIdealSteps

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

section Loads
variable {c : Dev nD} {PRE PRE' : sProp (MT nD τ sig Unit (Elt F) ℕ UU ℕ)} {ys yr st xs : ℕ}
variable {α : Type} {Q : α → sProp (MT nD τ sig Unit (Elt F) ℕ UU ℕ)}

/-! ## Parts of the state -/

theorem st_pre : St m K c PRE ys yr st xs ⊢ iprop(PRE ∗ (PRE' -∗ St m K c PRE' ys yr st xs)) := by
  unfold St
  iintro ⟨HC, HY, HR, HO, HX, Ho, HP, Hr⟩
  isplitl [HP]; · iexact HP
  iintro HP
  isplitl [HC]; · iexact HC
  isplitl [HY]; · iexact HY
  isplitl [HR]; · iexact HR
  isplitl [HO]; · iexact HO
  isplitl [HX]; · iexact HX
  isplitl [Ho]; · iexact Ho
  isplitl [HP]; · iexact HP
  iexact Hr

theorem st_comm (k : Fin 19) (h : k.val < yr) : St m K c PRE ys yr st xs
    ⊢ iprop(commPts c k (commAt m c) ∗ (commPts c k (commAt m c) -∗ St m K c PRE ys yr st xs)) := by
  unfold St
  iintro ⟨HC, HY, HR, Hr⟩
  ihave HR := (fam_at (RP c) (RG m c) k h) $$ HR
  icases HR with ⟨Hu, HR⟩
  ihave Hu := (show RG m c k ⊢ iprop(commPts c k (commAt m c) ∗ atPos ER (yRecvCell c k) 1 ∅ 0) from BI.Entails.refl _) $$ Hu
  icases Hu with ⟨Hp, Hat⟩
  isplitl [Hp]; · iexact Hp
  iintro Hp
  isplitl [HC]; · iexact HC
  isplitl [HY]; · iexact HY
  isplitl [HR Hp Hat]
  · iapply HR
    unfold RG
    isplitl [Hp]; · iexact Hp
    iexact Hat
  iexact Hr

theorem OR_eq (c : Dev nD) (k : Fin 19) : OR (F := F) c k = iprop(∃ f, oPts (F := F) c c k f) := rfl

theorem st_rows (k : Fin 19) (h : ¬ k.val < st) : St m K c PRE ys yr st xs
    ⊢ iprop((∃ f, oPts (F := F) c c k f) ∗ ((∃ f, oPts (F := F) c c k f) -∗ St m K c PRE ys yr st xs)) := by
  unfold St
  iintro ⟨HC, HY, HR, HO, Hr⟩
  ihave HO := (fam_at' (OR c) (OS m c xs) k h) $$ HO
  icases HO with ⟨Hu, HO⟩
  ihave Hu := (Entails.of_eq (OR_eq (F := F) c k)) $$ Hu
  isplitl [Hu]; · iexact Hu
  iintro Hu
  isplitl [HC]; · iexact HC
  isplitl [HY]; · iexact HY
  isplitl [HR]; · iexact HR
  isplitl [HO Hu]
  · iapply HO
    iapply (Entails.of_eq (OR_eq (F := F) c k).symm)
    iexact Hu
  iexact Hr

theorem st_store {i i' : ℕ} (k : Fin 19) (h : i = k.val) (h' : i' = k.val + 1) (hx : ¬ (k.val < 13 ∧ k.val < xs)) : St m K c PRE ys yr i xs
    ⊢ iprop((∃ f, oPts (F := F) c c k f) ∗ (oPts c c k (outAt m c) -∗ St m K c PRE ys yr i' xs)) := by
  unfold St
  iintro ⟨HC, HY, HR, HO, Hr⟩
  ihave HO := (fam_step (OR c) (OS m c xs) k h h') $$ HO
  icases HO with ⟨Hu, HO⟩
  ihave Hu := (Entails.of_eq (OR_eq (F := F) c k)) $$ Hu
  isplitl [Hu]; · iexact Hu
  iintro Hu
  isplitl [HC]; · iexact HC
  isplitl [HY]; · iexact HY
  isplitl [HR]; · iexact HR
  isplitl [HO Hu]
  · iapply HO
    iapply (Entails.of_eq (OS_of m xs k hx).symm)
    iexact Hu
  iexact Hr

theorem st_ops : St m K c PRE ys yr st xs ⊢ iprop(Ops m c ∗ (Ops m c -∗ St m K c PRE ys yr st xs)) := by
  unfold St
  iintro ⟨HC, HY, HR, HO, HX, Ho, HP, Hops, HV⟩
  isplitl [Hops]; · iexact Hops
  iintro Hops
  isplitl [HC]; · iexact HC
  isplitl [HY]; · iexact HY
  isplitl [HR]; · iexact HR
  isplitl [HO]; · iexact HO
  isplitl [HX]; · iexact HX
  isplitl [Ho]; · iexact Ho
  isplitl [HP]; · iexact HP
  isplitl [Hops]; · iexact Hops
  iexact HV

theorem ops_p : Ops m c ⊢ iprop((pLoc c ↦{Transfers.shareDrop fullShare 19} P m c) ∗ ((pLoc c ↦{Transfers.shareDrop fullShare 19} P m c) -∗ Ops m c)) := by
  unfold Ops
  iintro ⟨Hp, Hr⟩
  isplitl [Hp]; · iexact Hp
  iintro Hp
  isplitl [Hp]; · iexact Hp
  iexact Hr
theorem ops_r : Ops m c ⊢ iprop((rLoc c ↦{fullShare} R m c) ∗ ((rLoc c ↦{fullShare} R m c) -∗ Ops m c)) := by
  unfold Ops
  iintro ⟨Hp, Hr, Hg⟩
  isplitl [Hr]; · iexact Hr
  iintro Hr
  isplitl [Hp]; · iexact Hp
  isplitl [Hr]; · iexact Hr
  iexact Hg
theorem ops_g : Ops m c ⊢ iprop((gLoc c ↦{fullShare} G m c) ∗ ((gLoc c ↦{fullShare} G m c) -∗ Ops m c)) := by
  unfold Ops
  iintro ⟨Hp, Hr, Hg, Hat⟩
  isplitl [Hg]; · iexact Hg
  iintro Hg
  isplitl [Hp]; · iexact Hp
  isplitl [Hr]; · iexact Hr
  isplitl [Hg]; · iexact Hg
  iexact Hat

/-- A part of a part is a part. -/
theorem focus_trans {X Y Z : sProp 𝕄} (h : X ⊢ iprop(Y ∗ (Y -∗ X))) (h' : Y ⊢ iprop(Z ∗ (Z -∗ Y))) : X ⊢ iprop(Z ∗ (Z -∗ X)) := by
  iintro HX
  ihave H := h $$ HX
  icases H with ⟨HY, HX⟩
  ihave H := h' $$ HY
  icases H with ⟨HZ, HY⟩
  isplitl [HZ]; · iexact HZ
  iintro HZ
  iapply HX
  iapply HY
  iexact HZ

/-! ## Loads and stores -/

theorem load_in (X : sProp 𝕄) {cs : CoreSpace} {s : Shape} {e : EltTy} {mr : Memref sig .tc cs s e} {r : LoadRect s} {hl : mr.view.LoadsAt r}
    {kk : (r.shape.Idx → Elt F e) → Prog (TpuEff nD τ sig (Elt F) Λ₀ .tc) α}
    {S : Finset (Idx (mr.view.loc (c : Thread nD τ)))} {q : PosShare TreeShare} {f : Buf (Elt F) (mr.view.loc (c : Thread nD τ))}
    (hS : mr.view.setOn r.set ⊆ S)
    (h : X ⊢ iprop((mr.view.loc (c : Thread nD τ) ↦[S]{q} f) ∗ ((mr.view.loc (c : Thread nD τ) ↦[S]{q} f) -∗ X))) :
    X ⊢ iprop((X -∗ WP c (kk (mr.view.readAt (Elt F) r f)) Q) -∗ WP c (.op (.load mr r hl) kk) Q) := by
  iintro HX Hk
  ihave H := h $$ HX
  icases H with ⟨Hp, HX⟩
  iapply (wp_load 𝒱₀ (c : Thread nD τ) none Set.univ (m := mr) hS) $$ Hp
  iintro Hp
  iapply Hk
  iapply HX
  iexact Hp

/-- The own rows in the buffer of the device's half. -/
theorem step_lpre (k : ℕ) (hk : k < 16) {off : Fin 2 → ℕ} {inb : ∀ a, off a + S16x512.size a ≤ S256x512.size a} (hoff : off = ![16 * k, 0])
    {hl : preM.view.LoadsAt (Rect.unit (s := S256x512) off S16x512.size inb).toLoadRect} {kk : Vec F S16x512 .f32 → Prog (TpuEff nD τ sig (Elt F) Λ₀ .tc) α} :
    St m K c (Pre m c) ys yr st xs ⊢ iprop((St m K c (Pre m c) ys yr st xs -∗ WP c (kk (yaLo m c k hk)) Q)
      -∗ WP c (.op (.load preM (Rect.unit (s := S256x512) off S16x512.size inb).toLoadRect hl) kk) Q) := by
  subst hoff
  exact load_in (St m K c (Pre m c) ys yr st xs) (mr := preM) (S := Finset.univ) (Finset.subset_univ _) (st_pre m K)

/-- The received rows. -/
theorem step_lcomm (k : Fin 19) (h : k.val < yr) {off : Fin 3 → ℕ} {inb : ∀ a, off a + S1x16x512.size a ≤ S19x16x512.size a} (hoff : off = cOff k)
    {hl : cM.view.LoadsAt (Rect.unit (s := S19x16x512) off S1x16x512.size inb).toLoadRect} {kk : Vec F S1x16x512 .f32 → Prog (TpuEff nD τ sig (Elt F) Λ₀ .tc) α} :
    St m K c PRE ys yr st xs ⊢ iprop((St m K c PRE ys yr st xs -∗ WP c (kk (yb m c k)) Q)
      -∗ WP c (.op (.load cM (Rect.unit (s := S19x16x512) off S1x16x512.size inb).toLoadRect hl) kk) Q) := by
  subst hoff
  exact load_in (St m K c PRE ys yr st xs) (mr := cM) (S := (cSlot k).view.set)
    (Finset.subset_of_eq ((View.set_reshape _ _).trans (View.set_slice _ _)).symm) (st_comm m K k h)

theorem step_lp (k : Fin 19) {off : Fin 2 → ℕ} {inb : ∀ a, off a + S16x512.size a ≤ S512x512.size a} (hoff : off = rOff c k)
    {hl : sqM.view.LoadsAt (Rect.unit (s := S512x512) off S16x512.size inb).toLoadRect} {kk : Vec F S16x512 .f32 → Prog (TpuEff nD τ sig (Elt F) Λ₀ .tc) α} :
    St m K c PRE ys yr st xs ⊢ iprop((St m K c PRE ys yr st xs -∗ WP c (kk (pv m c k)) Q)
      -∗ WP c (.op (.load sqM (Rect.unit (s := S512x512) off S16x512.size inb).toLoadRect hl) kk) Q) := by
  subst hoff
  exact load_in (St m K c PRE ys yr st xs) (mr := sqM) (S := Finset.univ) (Finset.subset_univ _) (focus_trans (st_ops m K) (ops_p m))

theorem step_lr (k : Fin 19) {off : Fin 2 → ℕ} {inb : ∀ a, off a + S16x512.size a ≤ S512x512.size a} (hoff : off = rOff c k)
    {hl : rM.view.LoadsAt (Rect.unit (s := S512x512) off S16x512.size inb).toLoadRect} {kk : Vec F S16x512 .f32 → Prog (TpuEff nD τ sig (Elt F) Λ₀ .tc) α} :
    St m K c PRE ys yr st xs ⊢ iprop((St m K c PRE ys yr st xs -∗ WP c (kk (rv m c k)) Q)
      -∗ WP c (.op (.load rM (Rect.unit (s := S512x512) off S16x512.size inb).toLoadRect hl) kk) Q) := by
  subst hoff
  exact load_in (St m K c PRE ys yr st xs) (mr := rM) (S := Finset.univ) (Finset.subset_univ _) (focus_trans (st_ops m K) (ops_r m))

theorem step_lpown {hl : sqM.view.LoadsAt (ownRect c)} {kk : Vec F S256x512 .f32 → Prog (TpuEff nD τ sig (Elt F) Λ₀ .tc) α} :
    St m K c PRE ys yr st xs ⊢ iprop((St m K c PRE ys yr st xs -∗ WP c (kk (sqM.view.readAt (Elt F) (ownRect c) (P m c))) Q)
      -∗ WP c (.op (.load sqM (ownRect c) hl) kk) Q) :=
  load_in (St m K c PRE ys yr st xs) (mr := sqM) (S := Finset.univ) (Finset.subset_univ _) (focus_trans (st_ops m K) (ops_p m))

theorem step_lrown {hl : rM.view.LoadsAt (ownRect c)} {kk : Vec F S256x512 .f32 → Prog (TpuEff nD τ sig (Elt F) Λ₀ .tc) α} :
    St m K c PRE ys yr st xs ⊢ iprop((St m K c PRE ys yr st xs -∗ WP c (kk (rM.view.readAt (Elt F) (ownRect c) (R m c))) Q)
      -∗ WP c (.op (.load rM (ownRect c) hl) kk) Q) :=
  load_in (St m K c PRE ys yr st xs) (mr := rM) (S := Finset.univ) (Finset.subset_univ _) (focus_trans (st_ops m K) (ops_r m))

theorem step_lg {inb : ∀ a, (![0] : Fin 1 → ℕ) a + S512.size a ≤ S512.size a} {hl : gM.view.LoadsAt (Rect.unit (s := S512) ![0] S512.size inb).toLoadRect}
    {kk : Vec F S512 .f32 → Prog (TpuEff nD τ sig (Elt F) Λ₀ .tc) α} :
    St m K c PRE ys yr st xs ⊢ iprop((St m K c PRE ys yr st xs -∗ WP c (kk (gM.view.readAt (Elt F) (Rect.unit (s := S512) ![0] S512.size inb).toLoadRect (G m c))) Q)
      -∗ WP c (.op (.load gM (Rect.unit (s := S512) ![0] S512.size inb).toLoadRect hl) kk) Q) :=
  load_in (St m K c PRE ys yr st xs) (mr := gM) (S := Finset.univ) (Finset.subset_univ _) (focus_trans (st_ops m K) (ops_g m))

/-- A load of rows of the result that the kernel does not use. -/
theorem step_lo (k : Fin 19) (h : ¬ k.val < st) {off : Fin 2 → ℕ} {inb : ∀ a, off a + S16x512.size a ≤ S512x512.size a} (hoff : off = rOff c k)
    {hl : oM.view.LoadsAt (Rect.unit (s := S512x512) off S16x512.size inb).toLoadRect} {kk : Vec F S16x512 .f32 → Prog (TpuEff nD τ sig (Elt F) Λ₀ .tc) α} :
    St m K c PRE ys yr st xs ⊢ iprop((∀ v, St m K c PRE ys yr st xs -∗ WP c (kk v) Q)
      -∗ WP c (.op (.load oM (Rect.unit (s := S512x512) off S16x512.size inb).toLoadRect hl) kk) Q) := by
  subst hoff
  iintro HX Hk
  ihave H := (st_rows m K k h) $$ HX
  icases H with ⟨⟨%f, Hp⟩, HX⟩
  ihave Hp := (show oPts c c k f ⊢ (oLoc c ↦[(oRow c k).view.set]{fullShare} f : sProp 𝕄) from BI.Entails.refl _) $$ Hp
  iapply (wp_load 𝒱₀ (c : Thread nD τ) none Set.univ (m := oM) (S := (oRow c k).view.set) (Finset.subset_of_eq (View.set_slice _ _).symm)) $$ Hp
  iintro Hp
  iapply Hk
  iapply HX
  iexists f
  unfold oPts
  iexact Hp

theorem step_so {i i' : ℕ} (k : Fin 19) (hi : i = k.val) (hi' : i' = k.val + 1) (hx : ¬ (k.val < 13 ∧ k.val < xs))
    {off : Fin 2 → ℕ} {inb : ∀ a, off a + S16x512.size a ≤ S512x512.size a} (hoff : off = rOff c k) {w : Vec F S16x512 .f32} (hw : w = chunkOut m c k)
    {hx' : (oM.access (Rect.unit (s := S512x512) off S16x512.size inb)).Stores Finset.univ}
    {hm : (Finset.univ : Finset (Rect.unit (s := S512x512) off S16x512.size inb).shape.Idx) = Finset.univ ∨ ∀ a, (Rect.unit (s := S512x512) off S16x512.size inb).stride a = 1}
    {kk : PUnit → Prog (TpuEff nD τ sig (Elt F) Λ₀ .tc) α} :
    St m K c PRE ys yr i xs ⊢ iprop((St m K c PRE ys yr i' xs -∗ WP c (kk ⟨⟩) Q)
      -∗ WP c (.op (.store oM (Rect.unit (s := S512x512) off S16x512.size inb) w Finset.univ hx' hm) kk) Q) := by
  subst hoff hw
  iintro HX Hk
  ihave H := (st_store m K k hi hi' hx) $$ HX
  icases H with ⟨⟨%f, Hp⟩, HX⟩
  ihave Hp := (show oPts c c k f ⊢ (oLoc c ↦[(oRow c k).view.set]{fullShare} f : sProp 𝕄) from BI.Entails.refl _) $$ Hp
  iapply (wp_store 𝒱₀ (c : Thread nD τ) none Set.univ (m := oM) (r := Rect.unit (s := S512x512) (rOff c k) S16x512.size (rOff_inb c k k.isLt)) (S := (oRow c k).view.set) (Finset.Subset.refl _)) $$ Hp
  iintro Hp
  iapply Hk
  iapply HX
  unfold oPts
  iapply (Entails.of_eq (pointsTo_congr fun i hi => store_outAt m c k f i hi))
  iexact Hp

/-- The buffer of the own half, before and after it is filled. -/
theorem step_lraw {inb : ∀ a, (![0, 0] : Fin 2 → ℕ) a + S256x512.size a ≤ S256x512.size a}
    {hl : preM.view.LoadsAt (Rect.unit (s := S256x512) ![0, 0] S256x512.size inb).toLoadRect} {kk : Vec F S256x512 .f32 → Prog (TpuEff nD τ sig (Elt F) Λ₀ .tc) α} :
    St m K c (PreRaw (F := F) c) ys yr st xs ⊢ iprop((∀ v, St m K c (PreRaw (F := F) c) ys yr st xs -∗ WP c (kk v) Q)
      -∗ WP c (.op (.load preM (Rect.unit (s := S256x512) ![0, 0] S256x512.size inb).toLoadRect hl) kk) Q) := by
  iintro HX Hk
  ihave H := (st_pre m K (PRE' := PreRaw (F := F) c)) $$ HX
  icases H with ⟨Hp, HX⟩
  ihave Hp := (show PreRaw (F := F) c ⊢ iprop(∃ f : Buf (Elt F) (preLoc c), preLoc c ↦{fullShare} f) from BI.Entails.refl _) $$ Hp
  icases Hp with ⟨%f, Hp⟩
  iapply (wp_load 𝒱₀ (c : Thread nD τ) none Set.univ (m := preM) (S := Finset.univ) (Finset.subset_univ _)) $$ Hp
  iintro Hp
  iapply Hk
  iapply HX
  unfold PreRaw
  iexists f
  iexact Hp

theorem step_spre {inb : ∀ a, (![0, 0] : Fin 2 → ℕ) a + S256x512.size a ≤ S256x512.size a} {w : Vec F S256x512 .f32} (hw : w = preAt m c)
    {hx' : (preM.access (Rect.unit (s := S256x512) ![0, 0] S256x512.size inb)).Stores Finset.univ}
    {hm : (Finset.univ : Finset (Rect.unit (s := S256x512) ![0, 0] S256x512.size inb).shape.Idx) = Finset.univ ∨ ∀ a, (Rect.unit (s := S256x512) ![0, 0] S256x512.size inb).stride a = 1}
    {kk : PUnit → Prog (TpuEff nD τ sig (Elt F) Λ₀ .tc) α} :
    St m K c (PreRaw (F := F) c) ys yr st xs ⊢ iprop((St m K c (Pre m c) ys yr st xs -∗ WP c (kk ⟨⟩) Q)
      -∗ WP c (.op (.store preM (Rect.unit (s := S256x512) ![0, 0] S256x512.size inb) w Finset.univ hx' hm) kk) Q) := by
  subst hw
  iintro HX Hk
  ihave H := (st_pre m K (PRE' := Pre m c)) $$ HX
  icases H with ⟨Hp, HX⟩
  ihave Hp := (show PreRaw (F := F) c ⊢ iprop(∃ f : Buf (Elt F) (preLoc c), preLoc c ↦{fullShare} f) from BI.Entails.refl _) $$ Hp
  icases Hp with ⟨%f, Hp⟩
  have hz : (![0, 0] : Fin 2 → ℕ) = fun _ => 0 := by funext a; fin_cases a <;> rfl
  have hwr : (preM.access (Rect.unit (s := S256x512) ![0, 0] S256x512.size inb)).write (Elt F) f (preAt m c) Finset.univ = preAt m c :=
    Memref.write_access_unit_zero_univ (Elt F) cc0_scratch1 hz inb f (preAt m c)
  iapply (wp_store 𝒱₀ (c : Thread nD τ) none Set.univ (m := preM) (r := Rect.unit (s := S256x512) ![0, 0] S256x512.size inb) (S := Finset.univ) (Finset.subset_univ _)) $$ Hp
  iintro Hp
  iapply Hk
  iapply HX
  unfold Pre
  iapply (Entails.of_eq (congrArg (fun x => (preLoc c ↦{fullShare} x : sProp 𝕄)) hwr))
  iexact Hp

/-! ## Programs in sequence -/

/-- A step, then the rest. -/
theorem seq {X Y W Z : sProp 𝕄} (h : X ⊢ iprop((Y -∗ W) -∗ Z)) (h' : Y ⊢ W) : X ⊢ Z := by
  iintro HX
  iapply h $$ HX
  iintro HY
  iapply h'
  iexact HY

/-- A step that reads an unknown value, then the rest. -/
theorem seqv {β : Type} {X Y Z : sProp 𝕄} {W : β → sProp 𝕄} (h : X ⊢ iprop((∀ v, Y -∗ W v) -∗ Z)) (h' : ∀ v, Y ⊢ W v) : X ⊢ Z := by
  iintro HX
  iapply h $$ HX
  iintro %v HY
  iapply (h' v)
  iexact HY

/-- The post of a part: what its result is, and the state it leaves. -/
def done (φ : α → Prop) (Y : sProp 𝕄) : α → sProp 𝕄 := fun v => iprop(⌜φ v⌝ ∗ Y)

theorem ret_done {φ : α → Prop} {Y : sProp 𝕄} {v : α} (h : φ v) : Y ⊢ WP c (.ret v) (done φ Y) := by
  unfold WP
  rw [wp_ret]
  iintro HY
  imodintro
  unfold done
  isplitr
  · ipureintro; exact h
  iexact HY

/-- A part, then the rest. -/
theorem part_seq {β : Type} {X Y : sProp 𝕄} {p : Prog (TpuEff nD τ sig (Elt F) Λ₀ .tc) β} {kk : β → Prog (TpuEff nD τ sig (Elt F) Λ₀ .tc) α}
    {φ : β → Prop} (h : X ⊢ WP c p (done φ Y)) (h' : ∀ v, φ v → Y ⊢ WP c (kk v) Q) : X ⊢ WP c (p >>= kk) Q := by
  unfold WP at *
  rw [wp_bind]
  refine h.trans (wp_mono _ _ _ fun v => ?_)
  unfold done
  iintro ⟨%hv, HY⟩
  iapply (h' v hv)
  iexact HY

theorem chunk_lo (c : Dev nD) (k : Fin 19) (h : k.val < 16) : k0_pay8 (gv m c) (k0_pay7 (yaLo m c k h) (yb m c k)) = chunkOut m c k := by
  unfold chunkOut; rw [ya_lo m c k h]
theorem chunk_hi (c : Dev nD) (k : Fin 19) (h : ¬ k.val < 16) :
    k0_pay8 (gv m c) (k0_pay7 (k0_pay35 (pv m c k) (rv m c k)) (yb m c k)) = chunkOut m c k := by
  unfold chunkOut; rw [ya_hi m c k h]

end Loads

end Cert.KernelIdeal.Own
end
-- ==== Proof.KernelIdealPartsA.lean ====
module

public import proofs.«01_k».proof.Proof.KernelIdealLoads

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

section Parts
variable (c : Dev nD)

theorem part2_run (v2 v6 v19 : BitVec 32) :
    St m K c (PreRaw (F := F) c) 0 0 0 0 ⊢ WP c (k0_part2 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v19)
      (done (fun _ => True) (St m K c (PreRaw (F := F) c) 2 0 0 0)) := by
  rw [k0_part2_eq_skeleton]
  unfold k0_part2_skel
  simp only [Prog.lift, Prog.bind_op, Prog.bind_ret, Prog.pure_eq_ret, Prog.bind_assoc]
  refine seq (step_ysend m K 0 rfl rfl (off1_eq c 0) rfl (Fin.ext (k0_dev3_eq c)) rfl rfl) ?_
  refine seq (step_ysend m K 1 rfl rfl (off1_eq c 1) rfl (Fin.ext (k0_dev4_eq c)) rfl rfl) ?_
  exact ret_done trivial

theorem part3_run (v2 v6 v19 : BitVec 32) :
    St m K c (PreRaw (F := F) c) 2 0 0 0 ⊢ WP c (k0_part3 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v19)
      (done (fun _ => True) (St m K c (PreRaw (F := F) c) 4 0 0 0)) := by
  rw [k0_part3_eq_skeleton]
  unfold k0_part3_skel
  simp only [Prog.lift, Prog.bind_op, Prog.bind_ret, Prog.pure_eq_ret, Prog.bind_assoc]
  refine seq (step_ysend m K 2 rfl rfl (off1_eq c 2) rfl (Fin.ext (k0_dev5_eq c)) rfl rfl) ?_
  refine seq (step_ysend m K 3 rfl rfl (off1_eq c 3) rfl (Fin.ext (k0_dev6_eq c)) rfl rfl) ?_
  exact ret_done trivial

theorem part4_run (v2 v6 v19 : BitVec 32) :
    St m K c (PreRaw (F := F) c) 4 0 0 0 ⊢ WP c (k0_part4 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v19)
      (done (fun _ => True) (St m K c (PreRaw (F := F) c) 6 0 0 0)) := by
  rw [k0_part4_eq_skeleton]
  unfold k0_part4_skel
  simp only [Prog.lift, Prog.bind_op, Prog.bind_ret, Prog.pure_eq_ret, Prog.bind_assoc]
  refine seq (step_ysend m K 4 rfl rfl (off1_eq c 4) rfl (Fin.ext (k0_dev7_eq c)) rfl rfl) ?_
  refine seq (step_ysend m K 5 rfl rfl (off1_eq c 5) rfl (Fin.ext (k0_dev8_eq c)) rfl rfl) ?_
  exact ret_done trivial

theorem part5_run (v2 v6 v19 : BitVec 32) :
    St m K c (PreRaw (F := F) c) 6 0 0 0 ⊢ WP c (k0_part5 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v19)
      (done (fun _ => True) (St m K c (PreRaw (F := F) c) 8 0 0 0)) := by
  rw [k0_part5_eq_skeleton]
  unfold k0_part5_skel
  simp only [Prog.lift, Prog.bind_op, Prog.bind_ret, Prog.pure_eq_ret, Prog.bind_assoc]
  refine seq (step_ysend m K 6 rfl rfl (off1_eq c 6) rfl (Fin.ext (k0_dev9_eq c)) rfl rfl) ?_
  refine seq (step_ysend m K 7 rfl rfl (off1_eq c 7) rfl (Fin.ext (k0_dev10_eq c)) rfl rfl) ?_
  exact ret_done trivial

theorem part6_run (v2 v6 v19 : BitVec 32) :
    St m K c (PreRaw (F := F) c) 8 0 0 0 ⊢ WP c (k0_part6 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v19)
      (done (fun _ => True) (St m K c (PreRaw (F := F) c) 10 0 0 0)) := by
  rw [k0_part6_eq_skeleton]
  unfold k0_part6_skel
  simp only [Prog.lift, Prog.bind_op, Prog.bind_ret, Prog.pure_eq_ret, Prog.bind_assoc]
  refine seq (step_ysend m K 8 rfl rfl (off1_eq c 8) rfl (Fin.ext (k0_dev11_eq c)) rfl rfl) ?_
  refine seq (step_ysend m K 9 rfl rfl (off1_eq c 9) rfl (Fin.ext (k0_dev12_eq c)) rfl rfl) ?_
  exact ret_done trivial

theorem part7_run (v2 v6 v19 : BitVec 32) :
    St m K c (PreRaw (F := F) c) 10 0 0 0 ⊢ WP c (k0_part7 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v19)
      (done (fun _ => True) (St m K c (PreRaw (F := F) c) 12 0 0 0)) := by
  rw [k0_part7_eq_skeleton]
  unfold k0_part7_skel
  simp only [Prog.lift, Prog.bind_op, Prog.bind_ret, Prog.pure_eq_ret, Prog.bind_assoc]
  refine seq (step_ysend m K 10 rfl rfl (off1_eq c 10) rfl (Fin.ext (k0_dev13_eq c)) rfl rfl) ?_
  refine seq (step_ysend m K 11 rfl rfl (off1_eq c 11) rfl (Fin.ext (k0_dev14_eq c)) rfl rfl) ?_
  exact ret_done trivial

theorem part8_run (v2 v6 v19 : BitVec 32) :
    St m K c (PreRaw (F := F) c) 12 0 0 0 ⊢ WP c (k0_part8 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v19)
      (done (fun _ => True) (St m K c (PreRaw (F := F) c) 14 0 0 0)) := by
  rw [k0_part8_eq_skeleton]
  unfold k0_part8_skel
  simp only [Prog.lift, Prog.bind_op, Prog.bind_ret, Prog.pure_eq_ret, Prog.bind_assoc]
  refine seq (step_ysend m K 12 rfl rfl (off1_eq c 12) rfl (Fin.ext (k0_dev15_eq c)) rfl rfl) ?_
  refine seq (step_ysend m K 13 rfl rfl (off1_eq c 13) rfl (Fin.ext (k0_dev16_eq c)) rfl rfl) ?_
  exact ret_done trivial

theorem part9_run (v2 v6 v18 v19 : BitVec 32) :
    St m K c (PreRaw (F := F) c) 14 0 0 0 ⊢ WP c (k0_part9 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v18 v19)
      (done (fun _ => True) (St m K c (PreRaw (F := F) c) 16 0 0 0)) := by
  rw [k0_part9_eq_skeleton]
  unfold k0_part9_skel
  simp only [Prog.lift, Prog.bind_op, Prog.bind_ret, Prog.pure_eq_ret, Prog.bind_assoc]
  refine seq (step_ysend m K 14 rfl rfl (off1_eq c 14) rfl (Fin.ext (k0_dev17_eq c)) rfl rfl) ?_
  refine seq (step_ysend m K 15 rfl rfl (off1_eq c 15) rfl (Fin.ext (k0_dev18_eq c)) rfl rfl) ?_
  exact ret_done trivial

theorem part10_run (v2 v6 v18 v270 : BitVec 32) :
    St m K c (PreRaw (F := F) c) 16 0 0 0 ⊢ WP c (k0_part10 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v18 v270)
      (done (fun _ => True) (St m K c (PreRaw (F := F) c) 18 0 0 0)) := by
  rw [k0_part10_eq_skeleton]
  unfold k0_part10_skel
  simp only [Prog.lift, Prog.bind_op, Prog.bind_ret, Prog.pure_eq_ret, Prog.bind_assoc]
  refine seq (step_ysend m K 16 rfl rfl (off2_eq c 0) rfl (Fin.ext (k0_dev19_eq c)) rfl rfl) ?_
  refine seq (step_ysend m K 17 rfl rfl (off2_eq c 1) rfl (Fin.ext (k0_dev20_eq c)) rfl rfl) ?_
  exact ret_done trivial

theorem part11_run (v2 v6 v18 : BitVec 32) :
    St m K c (PreRaw (F := F) c) 18 0 0 0 ⊢ WP c (k0_part11 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v18)
      (done (fun v => v = gv m c) (St m K c (Pre m c) 19 0 0 0)) := by
  rw [k0_part11_eq_skeleton]
  unfold k0_part11_skel
  simp only [Prog.lift, Prog.bind_op, Prog.bind_ret, Prog.pure_eq_ret, Prog.bind_assoc]
  refine seq (step_ysend m K 18 rfl rfl (off2_eq c 2) rfl (Fin.ext (k0_dev21_eq c)) rfl rfl) ?_
  refine seq (step_lpown m K) ?_
  refine seq (step_lrown m K) ?_
  refine seqv (step_lraw m K) fun _ => ?_
  refine seq (step_spre m K rfl) ?_
  refine seq (step_lg m K) ?_
  exact ret_done rfl

theorem part12_run (v2 v6 v7 v18 : BitVec 32) :
    St m K c (Pre m c) 19 0 0 0 ⊢ WP c (k0_part12 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v7 v18 (gv m c))
      (done (fun _ => True) (St m K c (Pre m c) 19 1 1 0)) := by
  rw [k0_part12_eq_skeleton]
  unfold k0_part12_skel
  simp only [Prog.lift, Prog.bind_op, Prog.bind_ret, Prog.pure_eq_ret, Prog.bind_assoc]
  refine seq (step_ywait m K 0 rfl rfl rfl rfl) ?_
  refine seq (step_lpre m K 0 (by decide) rfl) ?_
  refine seq (step_lcomm m K 0 (by decide) rfl) ?_
  refine seqv (step_lo m K 0 (by decide) (off4_eq c 0)) fun _ => ?_
  refine seq (step_so m K 0 rfl rfl (by decide) (off4_eq c 0) (chunk_lo m c 0 (by decide))) ?_
  exact ret_done trivial

theorem part13_run (v2 v5 v6 v18 v365 : BitVec 32) :
    St m K c (Pre m c) 19 1 1 0 ⊢ WP c (k0_part13 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v5 v6 v18 v365)
      (done (fun v => v.1 = k0_pay4 (yaLo m c 1 (by decide)) (yb m c 1) ∧ v.2.2 = k0_pay5 (yaLo m c 1 (by decide)) (yb m c 1)) (St m K c (Pre m c) 19 2 1 1)) := by
  rw [k0_part13_eq_skeleton]
  unfold k0_part13_skel
  simp only [Prog.lift, Prog.bind_op, Prog.bind_ret, Prog.pure_eq_ret, Prog.bind_assoc]
  refine seq (step_xsend m K 0 rfl rfl (by decide) (off5_eq c 0) (Fin.ext (k0_dev22_eq c)) rfl rfl) ?_
  refine seq (step_ywait m K 1 rfl rfl rfl rfl) ?_
  refine seq (step_lpre m K 1 (by decide) rfl) ?_
  refine seq (step_lcomm m K 1 (by decide) rfl) ?_
  exact ret_done ⟨rfl, rfl⟩

theorem part14_run (v2 v5 v6 v7 v395 : BitVec 32) :
    St m K c (Pre m c) 19 2 1 1 ⊢ WP c (k0_part14 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v5 v6 v7 (gv m c) (k0_pay4 (yaLo m c 1 (by decide)) (yb m c 1)) v395 (k0_pay5 (yaLo m c 1 (by decide)) (yb m c 1)))
      (done (fun v => v = (k0_pay7 (yaLo m c 2 (by decide)) (yb m c 2))) (St m K c (Pre m c) 19 3 2 2)) := by
  rw [k0_part14_eq_skeleton]
  unfold k0_part14_skel
  simp only [Prog.lift, Prog.bind_op, Prog.bind_ret, Prog.pure_eq_ret, Prog.bind_assoc]
  refine seqv (step_lo m K 1 (by decide) (off4_eq c 1)) fun _ => ?_
  refine seq (step_so m K 1 rfl rfl (by decide) (off4_eq c 1) (chunk_lo m c 1 (by decide))) ?_
  refine seq (step_xsend m K 1 rfl rfl (by decide) (off5_eq c 1) (Fin.ext (k0_dev23_eq c)) rfl rfl) ?_
  refine seq (step_ywait m K 2 rfl rfl rfl rfl) ?_
  refine seq (step_lpre m K 2 (by decide) rfl) ?_
  refine seq (step_lcomm m K 2 (by decide) rfl) ?_
  exact ret_done rfl

theorem part15_run (v2 v5 v6 v7 v18 : BitVec 32) :
    St m K c (Pre m c) 19 3 2 2 ⊢ WP c (k0_part15 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v5 v6 v7 v18 (gv m c) ((k0_pay7 (yaLo m c 2 (by decide)) (yb m c 2))))
      (done (fun _ => True) (St m K c (Pre m c) 19 3 3 3)) := by
  rw [k0_part15_eq_skeleton]
  unfold k0_part15_skel
  simp only [Prog.lift, Prog.bind_op, Prog.bind_ret, Prog.pure_eq_ret, Prog.bind_assoc]
  refine seqv (step_lo m K 2 (by decide) (off4_eq c 2)) fun _ => ?_
  refine seq (step_so m K 2 rfl rfl (by decide) (off4_eq c 2) (chunk_lo m c 2 (by decide))) ?_
  refine seq (step_xsend m K 2 rfl rfl (by decide) (off5_eq c 2) (Fin.ext (k0_dev24_eq c)) rfl rfl) ?_
  exact ret_done trivial

theorem part16_run (v5 v7 v18 : BitVec 32) :
    St m K c (Pre m c) 19 3 3 3 ⊢ WP c (k0_part16 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v5 v7 v18 (gv m c))
      (done (fun _ => True) (St m K c (Pre m c) 19 4 4 4)) := by
  rw [k0_part16_eq_skeleton]
  unfold k0_part16_skel
  simp only [Prog.lift, Prog.bind_op, Prog.bind_ret, Prog.pure_eq_ret, Prog.bind_assoc]
  refine seq (step_ywait m K 3 rfl rfl rfl rfl) ?_
  refine seq (step_lpre m K 3 (by decide) rfl) ?_
  refine seq (step_lcomm m K 3 (by decide) rfl) ?_
  refine seqv (step_lo m K 3 (by decide) (off4_eq c 3)) fun _ => ?_
  refine seq (step_so m K 3 rfl rfl (by decide) (off4_eq c 3) (chunk_lo m c 3 (by decide))) ?_
  refine seq (step_xsend m K 3 rfl rfl (by decide) (off5_eq c 3) (Fin.ext (k0_dev25_eq c)) rfl rfl) ?_
  exact ret_done trivial

end Parts

end Cert.KernelIdeal.Own
end
-- ==== Proof.KernelIdealPartsB.lean ====
module

public import proofs.«01_k».proof.Proof.KernelIdealLoads

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

section Parts
variable (c : Dev nD)

theorem part17_run (v2 v6 v7 v18 : BitVec 32) :
    St m K c (Pre m c) 19 4 4 4 ⊢ WP c (k0_part17 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v7 v18 (gv m c))
      (done (fun _ => True) (St m K c (Pre m c) 19 5 5 4)) := by
  rw [k0_part17_eq_skeleton]
  unfold k0_part17_skel
  simp only [Prog.lift, Prog.bind_op, Prog.bind_ret, Prog.pure_eq_ret, Prog.bind_assoc]
  refine seq (step_ywait m K 4 rfl rfl rfl rfl) ?_
  refine seq (step_lpre m K 4 (by decide) rfl) ?_
  refine seq (step_lcomm m K 4 (by decide) rfl) ?_
  refine seqv (step_lo m K 4 (by decide) (off4_eq c 4)) fun _ => ?_
  refine seq (step_so m K 4 rfl rfl (by decide) (off4_eq c 4) (chunk_lo m c 4 (by decide))) ?_
  exact ret_done trivial

theorem part18_run (v2 v5 v6 v18 v533 : BitVec 32) :
    St m K c (Pre m c) 19 5 5 4 ⊢ WP c (k0_part18 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v5 v6 v18 v533)
      (done (fun v => v.1 = k0_pay11 (yaLo m c 5 (by decide)) (yb m c 5) ∧ v.2.2 = k0_pay12 (yaLo m c 5 (by decide)) (yb m c 5)) (St m K c (Pre m c) 19 6 5 5)) := by
  rw [k0_part18_eq_skeleton]
  unfold k0_part18_skel
  simp only [Prog.lift, Prog.bind_op, Prog.bind_ret, Prog.pure_eq_ret, Prog.bind_assoc]
  refine seq (step_xsend m K 4 rfl rfl (by decide) (off5_eq c 4) (Fin.ext (k0_dev26_eq c)) rfl rfl) ?_
  refine seq (step_ywait m K 5 rfl rfl rfl rfl) ?_
  refine seq (step_lpre m K 5 (by decide) rfl) ?_
  refine seq (step_lcomm m K 5 (by decide) rfl) ?_
  exact ret_done ⟨rfl, rfl⟩

theorem part19_run (v2 v5 v6 v7 v563 : BitVec 32) :
    St m K c (Pre m c) 19 6 5 5 ⊢ WP c (k0_part19 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v5 v6 v7 (gv m c) (k0_pay11 (yaLo m c 5 (by decide)) (yb m c 5)) v563 (k0_pay12 (yaLo m c 5 (by decide)) (yb m c 5)))
      (done (fun v => v = (k0_pay14 (yaLo m c 6 (by decide)) (yb m c 6))) (St m K c (Pre m c) 19 7 6 6)) := by
  rw [k0_part19_eq_skeleton]
  unfold k0_part19_skel
  simp only [Prog.lift, Prog.bind_op, Prog.bind_ret, Prog.pure_eq_ret, Prog.bind_assoc]
  refine seqv (step_lo m K 5 (by decide) (off4_eq c 5)) fun _ => ?_
  refine seq (step_so m K 5 rfl rfl (by decide) (off4_eq c 5) (chunk_lo m c 5 (by decide))) ?_
  refine seq (step_xsend m K 5 rfl rfl (by decide) (off5_eq c 5) (Fin.ext (k0_dev27_eq c)) rfl rfl) ?_
  refine seq (step_ywait m K 6 rfl rfl rfl rfl) ?_
  refine seq (step_lpre m K 6 (by decide) rfl) ?_
  refine seq (step_lcomm m K 6 (by decide) rfl) ?_
  exact ret_done rfl

theorem part20_run (v2 v5 v6 v7 v18 : BitVec 32) :
    St m K c (Pre m c) 19 7 6 6 ⊢ WP c (k0_part20 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v5 v6 v7 v18 (gv m c) ((k0_pay14 (yaLo m c 6 (by decide)) (yb m c 6))))
      (done (fun _ => True) (St m K c (Pre m c) 19 7 7 7)) := by
  rw [k0_part20_eq_skeleton]
  unfold k0_part20_skel
  simp only [Prog.lift, Prog.bind_op, Prog.bind_ret, Prog.pure_eq_ret, Prog.bind_assoc]
  refine seqv (step_lo m K 6 (by decide) (off4_eq c 6)) fun _ => ?_
  refine seq (step_so m K 6 rfl rfl (by decide) (off4_eq c 6) (chunk_lo m c 6 (by decide))) ?_
  refine seq (step_xsend m K 6 rfl rfl (by decide) (off5_eq c 6) (Fin.ext (k0_dev28_eq c)) rfl rfl) ?_
  exact ret_done trivial

theorem part21_run (v5 v7 v18 : BitVec 32) :
    St m K c (Pre m c) 19 7 7 7 ⊢ WP c (k0_part21 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v5 v7 v18 (gv m c))
      (done (fun _ => True) (St m K c (Pre m c) 19 8 8 8)) := by
  rw [k0_part21_eq_skeleton]
  unfold k0_part21_skel
  simp only [Prog.lift, Prog.bind_op, Prog.bind_ret, Prog.pure_eq_ret, Prog.bind_assoc]
  refine seq (step_ywait m K 7 rfl rfl rfl rfl) ?_
  refine seq (step_lpre m K 7 (by decide) rfl) ?_
  refine seq (step_lcomm m K 7 (by decide) rfl) ?_
  refine seqv (step_lo m K 7 (by decide) (off4_eq c 7)) fun _ => ?_
  refine seq (step_so m K 7 rfl rfl (by decide) (off4_eq c 7) (chunk_lo m c 7 (by decide))) ?_
  refine seq (step_xsend m K 7 rfl rfl (by decide) (off5_eq c 7) (Fin.ext (k0_dev29_eq c)) rfl rfl) ?_
  exact ret_done trivial

theorem part22_run (v2 v6 v7 v18 : BitVec 32) :
    St m K c (Pre m c) 19 8 8 8 ⊢ WP c (k0_part22 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v7 v18 (gv m c))
      (done (fun _ => True) (St m K c (Pre m c) 19 9 9 8)) := by
  rw [k0_part22_eq_skeleton]
  unfold k0_part22_skel
  simp only [Prog.lift, Prog.bind_op, Prog.bind_ret, Prog.pure_eq_ret, Prog.bind_assoc]
  refine seq (step_ywait m K 8 rfl rfl rfl rfl) ?_
  refine seq (step_lpre m K 8 (by decide) rfl) ?_
  refine seq (step_lcomm m K 8 (by decide) rfl) ?_
  refine seqv (step_lo m K 8 (by decide) (off4_eq c 8)) fun _ => ?_
  refine seq (step_so m K 8 rfl rfl (by decide) (off4_eq c 8) (chunk_lo m c 8 (by decide))) ?_
  exact ret_done trivial

theorem part23_run (v2 v5 v6 v18 v701 : BitVec 32) :
    St m K c (Pre m c) 19 9 9 8 ⊢ WP c (k0_part23 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v5 v6 v18 v701)
      (done (fun v => v.1 = k0_pay18 (yaLo m c 9 (by decide)) (yb m c 9) ∧ v.2.2 = k0_pay19 (yaLo m c 9 (by decide)) (yb m c 9)) (St m K c (Pre m c) 19 10 9 9)) := by
  rw [k0_part23_eq_skeleton]
  unfold k0_part23_skel
  simp only [Prog.lift, Prog.bind_op, Prog.bind_ret, Prog.pure_eq_ret, Prog.bind_assoc]
  refine seq (step_xsend m K 8 rfl rfl (by decide) (off5_eq c 8) (Fin.ext (k0_dev30_eq c)) rfl rfl) ?_
  refine seq (step_ywait m K 9 rfl rfl rfl rfl) ?_
  refine seq (step_lpre m K 9 (by decide) rfl) ?_
  refine seq (step_lcomm m K 9 (by decide) rfl) ?_
  exact ret_done ⟨rfl, rfl⟩

theorem part24_run (v2 v5 v6 v7 v731 : BitVec 32) :
    St m K c (Pre m c) 19 10 9 9 ⊢ WP c (k0_part24 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v5 v6 v7 (gv m c) (k0_pay18 (yaLo m c 9 (by decide)) (yb m c 9)) v731 (k0_pay19 (yaLo m c 9 (by decide)) (yb m c 9)))
      (done (fun v => v = (k0_pay21 (yaLo m c 10 (by decide)) (yb m c 10))) (St m K c (Pre m c) 19 11 10 10)) := by
  rw [k0_part24_eq_skeleton]
  unfold k0_part24_skel
  simp only [Prog.lift, Prog.bind_op, Prog.bind_ret, Prog.pure_eq_ret, Prog.bind_assoc]
  refine seqv (step_lo m K 9 (by decide) (off4_eq c 9)) fun _ => ?_
  refine seq (step_so m K 9 rfl rfl (by decide) (off4_eq c 9) (chunk_lo m c 9 (by decide))) ?_
  refine seq (step_xsend m K 9 rfl rfl (by decide) (off5_eq c 9) (Fin.ext (k0_dev31_eq c)) rfl rfl) ?_
  refine seq (step_ywait m K 10 rfl rfl rfl rfl) ?_
  refine seq (step_lpre m K 10 (by decide) rfl) ?_
  refine seq (step_lcomm m K 10 (by decide) rfl) ?_
  exact ret_done rfl

theorem part25_run (v2 v5 v6 v7 v18 : BitVec 32) :
    St m K c (Pre m c) 19 11 10 10 ⊢ WP c (k0_part25 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v5 v6 v7 v18 (gv m c) ((k0_pay21 (yaLo m c 10 (by decide)) (yb m c 10))))
      (done (fun _ => True) (St m K c (Pre m c) 19 11 11 11)) := by
  rw [k0_part25_eq_skeleton]
  unfold k0_part25_skel
  simp only [Prog.lift, Prog.bind_op, Prog.bind_ret, Prog.pure_eq_ret, Prog.bind_assoc]
  refine seqv (step_lo m K 10 (by decide) (off4_eq c 10)) fun _ => ?_
  refine seq (step_so m K 10 rfl rfl (by decide) (off4_eq c 10) (chunk_lo m c 10 (by decide))) ?_
  refine seq (step_xsend m K 10 rfl rfl (by decide) (off5_eq c 10) (Fin.ext (k0_dev32_eq c)) rfl rfl) ?_
  exact ret_done trivial

theorem part26_run (v5 v7 v18 : BitVec 32) :
    St m K c (Pre m c) 19 11 11 11 ⊢ WP c (k0_part26 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v5 v7 v18 (gv m c))
      (done (fun _ => True) (St m K c (Pre m c) 19 12 12 12)) := by
  rw [k0_part26_eq_skeleton]
  unfold k0_part26_skel
  simp only [Prog.lift, Prog.bind_op, Prog.bind_ret, Prog.pure_eq_ret, Prog.bind_assoc]
  refine seq (step_ywait m K 11 rfl rfl rfl rfl) ?_
  refine seq (step_lpre m K 11 (by decide) rfl) ?_
  refine seq (step_lcomm m K 11 (by decide) rfl) ?_
  refine seqv (step_lo m K 11 (by decide) (off4_eq c 11)) fun _ => ?_
  refine seq (step_so m K 11 rfl rfl (by decide) (off4_eq c 11) (chunk_lo m c 11 (by decide))) ?_
  refine seq (step_xsend m K 11 rfl rfl (by decide) (off5_eq c 11) (Fin.ext (k0_dev33_eq c)) rfl rfl) ?_
  exact ret_done trivial

theorem part27_run (v2 v6 v7 v18 : BitVec 32) :
    St m K c (Pre m c) 19 12 12 12 ⊢ WP c (k0_part27 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v7 v18 (gv m c))
      (done (fun _ => True) (St m K c (Pre m c) 19 13 13 12)) := by
  rw [k0_part27_eq_skeleton]
  unfold k0_part27_skel
  simp only [Prog.lift, Prog.bind_op, Prog.bind_ret, Prog.pure_eq_ret, Prog.bind_assoc]
  refine seq (step_ywait m K 12 rfl rfl rfl rfl) ?_
  refine seq (step_lpre m K 12 (by decide) rfl) ?_
  refine seq (step_lcomm m K 12 (by decide) rfl) ?_
  refine seqv (step_lo m K 12 (by decide) (off4_eq c 12)) fun _ => ?_
  refine seq (step_so m K 12 rfl rfl (by decide) (off4_eq c 12) (chunk_lo m c 12 (by decide))) ?_
  exact ret_done trivial

theorem part28_run (v2 v5 v6 v18 v869 : BitVec 32) :
    St m K c (Pre m c) 19 13 13 12 ⊢ WP c (k0_part28 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v5 v6 v18 v869)
      (done (fun v => v.1 = k0_pay25 (yaLo m c 13 (by decide)) (yb m c 13) ∧ v.2.2 = k0_pay26 (yaLo m c 13 (by decide)) (yb m c 13)) (St m K c (Pre m c) 19 14 13 13)) := by
  rw [k0_part28_eq_skeleton]
  unfold k0_part28_skel
  simp only [Prog.lift, Prog.bind_op, Prog.bind_ret, Prog.pure_eq_ret, Prog.bind_assoc]
  refine seq (step_xsend m K 12 rfl rfl (by decide) (off5_eq c 12) (Fin.ext (k0_dev34_eq c)) rfl rfl) ?_
  refine seq (step_ywait m K 13 rfl rfl rfl rfl) ?_
  refine seq (step_lpre m K 13 (by decide) rfl) ?_
  refine seq (step_lcomm m K 13 (by decide) rfl) ?_
  exact ret_done ⟨rfl, rfl⟩

end Parts

end Cert.KernelIdeal.Own
end
-- ==== Proof.KernelIdealPartsC.lean ====
module

public import proofs.«01_k».proof.Proof.KernelIdealLoads

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

section Parts
variable (c : Dev nD)

theorem part29_run (v2 v6 v18 v899 : BitVec 32) :
    St m K c (Pre m c) 19 14 13 13 ⊢ WP c (k0_part29 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v18 (gv m c) (k0_pay25 (yaLo m c 13 (by decide)) (yb m c 13)) v899 (k0_pay26 (yaLo m c 13 (by decide)) (yb m c 13)))
      (done (fun v => v.2.1 = k0_pay28 (yaLo m c 14 (by decide)) (yb m c 14) ∧ v.2.2 = k0_pay29 (gv m c)) (St m K c (Pre m c) 19 15 14 13)) := by
  rw [k0_part29_eq_skeleton]
  unfold k0_part29_skel
  simp only [Prog.lift, Prog.bind_op, Prog.bind_ret, Prog.pure_eq_ret, Prog.bind_assoc]
  refine seqv (step_lo m K 13 (by decide) (off4_eq c 13)) fun _ => ?_
  refine seq (step_so m K 13 rfl rfl (by decide) (off4_eq c 13) (chunk_lo m c 13 (by decide))) ?_
  refine seq (step_ywait m K 14 rfl rfl rfl rfl) ?_
  refine seq (step_lpre m K 14 (by decide) rfl) ?_
  refine seq (step_lcomm m K 14 (by decide) rfl) ?_
  exact ret_done ⟨rfl, rfl⟩

theorem part30_run (v2 v6 v18 v931 : BitVec 32) :
    St m K c (Pre m c) 19 15 14 13 ⊢ WP c (k0_part30 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v18 (gv m c) v931 (k0_pay28 (yaLo m c 14 (by decide)) (yb m c 14)) (k0_pay29 (gv m c)))
      (done (fun v => v = (k0_pay31 (gv m c) (yaLo m c 15 (by decide)) (yb m c 15))) (St m K c (Pre m c) 19 16 15 13)) := by
  rw [k0_part30_eq_skeleton]
  unfold k0_part30_skel
  simp only [Prog.lift, Prog.bind_op, Prog.bind_ret, Prog.pure_eq_ret, Prog.bind_assoc]
  refine seqv (step_lo m K 14 (by decide) (off4_eq c 14)) fun _ => ?_
  refine seq (step_so m K 14 rfl rfl (by decide) (off4_eq c 14) (chunk_lo m c 14 (by decide))) ?_
  refine seq (step_ywait m K 15 rfl rfl rfl rfl) ?_
  refine seq (step_lpre m K 15 (by decide) rfl) ?_
  refine seq (step_lcomm m K 15 (by decide) rfl) ?_
  exact ret_done rfl

theorem part31_run (v2 v6 v19 : BitVec 32) :
    St m K c (Pre m c) 19 16 15 13 ⊢ WP c (k0_part31 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v19 ((k0_pay31 (gv m c) (yaLo m c 15 (by decide)) (yb m c 15))))
      (done (fun v => v.2.1 = k0_pay32 (pv m c 16) (rv m c 16) (yb m c 16) ∧ v.2.2 = k0_pay33 (pv m c 16) (rv m c 16) (yb m c 16)) (St m K c (Pre m c) 19 17 16 13)) := by
  rw [k0_part31_eq_skeleton]
  unfold k0_part31_skel
  simp only [Prog.lift, Prog.bind_op, Prog.bind_ret, Prog.pure_eq_ret, Prog.bind_assoc]
  refine seqv (step_lo m K 15 (by decide) (off4_eq c 15)) fun _ => ?_
  refine seq (step_so m K 15 rfl rfl (by decide) (off4_eq c 15) (chunk_lo m c 15 (by decide))) ?_
  refine seq (step_ywait m K 16 rfl rfl rfl rfl) ?_
  refine seq (step_lp m K 16 (off6_eq c 0)) ?_
  refine seq (step_lr m K 16 (off6_eq c 0)) ?_
  refine seq (step_lcomm m K 16 (by decide) rfl) ?_
  exact ret_done ⟨rfl, rfl⟩

theorem part32_run (v2 v6 v19 v987 : BitVec 32) :
    St m K c (Pre m c) 19 17 16 13 ⊢ WP c (k0_part32 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v19 (gv m c) v987 (k0_pay32 (pv m c 16) (rv m c 16) (yb m c 16)) (k0_pay33 (pv m c 16) (rv m c 16) (yb m c 16)))
      (done (fun v => v.2 = k0_pay35 (pv m c 17) (rv m c 17)) (St m K c (Pre m c) 19 18 17 13)) := by
  rw [k0_part32_eq_skeleton]
  unfold k0_part32_skel
  simp only [Prog.lift, Prog.bind_op, Prog.bind_ret, Prog.pure_eq_ret, Prog.bind_assoc]
  refine seqv (step_lo m K 16 (by decide) (off6_eq c 0)) fun _ => ?_
  refine seq (step_so m K 16 rfl rfl (by decide) (off6_eq c 0) (chunk_hi m c 16 (by decide))) ?_
  refine seq (step_ywait m K 17 rfl rfl rfl rfl) ?_
  refine seq (step_lp m K 17 (off6_eq c 1)) ?_
  refine seq (step_lr m K 17 (off6_eq c 1)) ?_
  exact ret_done rfl

theorem part33_run (v2 v6 v19 v1028 : BitVec 32) :
    St m K c (Pre m c) 19 18 17 13 ⊢ WP c (k0_part33 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v2 v6 v19 (gv m c) v1028 (k0_pay35 (pv m c 17) (rv m c 17)))
      (done (fun _ => True) (St m K c (Pre m c) 19 19 18 13)) := by
  rw [k0_part33_eq_skeleton]
  unfold k0_part33_skel
  simp only [Prog.lift, Prog.bind_op, Prog.bind_ret, Prog.pure_eq_ret, Prog.bind_assoc]
  refine seq (step_lcomm m K 17 (by decide) rfl) ?_
  refine seqv (step_lo m K 17 (by decide) (off6_eq c 1)) fun _ => ?_
  refine seq (step_so m K 17 rfl rfl (by decide) (off6_eq c 1) (chunk_hi m c 17 (by decide))) ?_
  refine seq (step_ywait m K 18 rfl rfl rfl rfl) ?_
  exact ret_done trivial

theorem part34_run (v5 v7 v1069 : BitVec 32) :
    St m K c (Pre m c) 19 19 18 13 ⊢ WP c (k0_part34 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v5 v7 (gv m c) v1069)
      (done (fun _ => True) (St2 m K c (Rest m c (Pre m c)) 1 1 0)) := by
  rw [k0_part34_eq_skeleton]
  unfold k0_part34_skel
  simp only [Prog.lift, Prog.bind_op, Prog.bind_ret, Prog.pure_eq_ret, Prog.bind_assoc]
  refine seq (step_lp m K 18 (off6_eq c 2)) ?_
  refine seq (step_lr m K 18 (off6_eq c 2)) ?_
  refine seq (step_lcomm m K 18 (by decide) rfl) ?_
  refine seqv (step_lo m K 18 (by decide) (off6_eq c 2)) fun _ => ?_
  refine seq (step_so m K 18 rfl rfl (by decide) (off6_eq c 2) (chunk_hi m c 18 (by decide))) ?_
  refine (st_st2 m K c (Pre m c)).trans ?_
  refine seq (step_vwait m K 0 rfl rfl rfl rfl) ?_
  refine seq (step_xwait m K 0 rfl rfl rfl rfl) ?_
  exact ret_done trivial

theorem part35_run (v5 v7 : BitVec 32) :
    St2 m K c (Rest m c (Pre m c)) 1 1 0 ⊢ WP c (k0_part35 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v5 v7)
      (done (fun _ => True) (St2 m K c (Rest m c (Pre m c)) 3 3 0)) := by
  rw [k0_part35_eq_skeleton]
  unfold k0_part35_skel
  simp only [Prog.lift, Prog.bind_op, Prog.bind_ret, Prog.pure_eq_ret, Prog.bind_assoc]
  refine seq (step_vwait m K 1 rfl rfl rfl rfl) ?_
  refine seq (step_xwait m K 1 rfl rfl rfl rfl) ?_
  refine seq (step_vwait m K 2 rfl rfl rfl rfl) ?_
  refine seq (step_xwait m K 2 rfl rfl rfl rfl) ?_
  exact ret_done trivial

theorem part36_run (v5 v7 : BitVec 32) :
    St2 m K c (Rest m c (Pre m c)) 3 3 0 ⊢ WP c (k0_part36 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v5 v7)
      (done (fun _ => True) (St2 m K c (Rest m c (Pre m c)) 6 5 0)) := by
  rw [k0_part36_eq_skeleton]
  unfold k0_part36_skel
  simp only [Prog.lift, Prog.bind_op, Prog.bind_ret, Prog.pure_eq_ret, Prog.bind_assoc]
  refine seq (step_vwait m K 3 rfl rfl rfl rfl) ?_
  refine seq (step_xwait m K 3 rfl rfl rfl rfl) ?_
  refine seq (step_vwait m K 4 rfl rfl rfl rfl) ?_
  refine seq (step_xwait m K 4 rfl rfl rfl rfl) ?_
  refine seq (step_vwait m K 5 rfl rfl rfl rfl) ?_
  exact ret_done trivial

theorem part37_run (v5 v7 : BitVec 32) :
    St2 m K c (Rest m c (Pre m c)) 6 5 0 ⊢ WP c (k0_part37 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v5 v7)
      (done (fun _ => True) (St2 m K c (Rest m c (Pre m c)) 8 7 0)) := by
  rw [k0_part37_eq_skeleton]
  unfold k0_part37_skel
  simp only [Prog.lift, Prog.bind_op, Prog.bind_ret, Prog.pure_eq_ret, Prog.bind_assoc]
  refine seq (step_xwait m K 5 rfl rfl rfl rfl) ?_
  refine seq (step_vwait m K 6 rfl rfl rfl rfl) ?_
  refine seq (step_xwait m K 6 rfl rfl rfl rfl) ?_
  refine seq (step_vwait m K 7 rfl rfl rfl rfl) ?_
  exact ret_done trivial

theorem part38_run (v5 v7 : BitVec 32) :
    St2 m K c (Rest m c (Pre m c)) 8 7 0 ⊢ WP c (k0_part38 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v5 v7)
      (done (fun _ => True) (St2 m K c (Rest m c (Pre m c)) 10 10 0)) := by
  rw [k0_part38_eq_skeleton]
  unfold k0_part38_skel
  simp only [Prog.lift, Prog.bind_op, Prog.bind_ret, Prog.pure_eq_ret, Prog.bind_assoc]
  refine seq (step_xwait m K 7 rfl rfl rfl rfl) ?_
  refine seq (step_vwait m K 8 rfl rfl rfl rfl) ?_
  refine seq (step_xwait m K 8 rfl rfl rfl rfl) ?_
  refine seq (step_vwait m K 9 rfl rfl rfl rfl) ?_
  refine seq (step_xwait m K 9 rfl rfl rfl rfl) ?_
  exact ret_done trivial

theorem part39_run (v5 v7 v1218 c1_i32_896 : BitVec 32) :
    St2 m K c (Rest m c (Pre m c)) 10 10 0 ⊢ WP c (k0_part39 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c v5 v7 v1218 c1_i32_896)
      (done (fun _ => True) (St2 m K c (Rest m c (Pre m c)) 12 12 0)) := by
  rw [k0_part39_eq_skeleton]
  unfold k0_part39_skel
  simp only [Prog.lift, Prog.bind_op, Prog.bind_ret, Prog.pure_eq_ret, Prog.bind_assoc]
  refine seq (step_vwait m K 10 rfl rfl rfl rfl) ?_
  refine seq (step_xwait m K 10 rfl rfl rfl rfl) ?_
  refine seq (step_vwait m K 11 rfl rfl rfl rfl) ?_
  refine seq (step_xwait m K 11 rfl rfl rfl rfl) ?_
  exact ret_done trivial

theorem part40_run :
    St2 m K c (Rest m c (Pre m c)) 12 12 0 ⊢ WP c (k0_part40 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c)
      (done (fun _ => True) (St2 m K c (Rest m c (Pre m c)) 13 13 2)) := by
  rw [k0_part40_eq_skeleton]
  unfold k0_part40_skel
  simp only [Prog.lift, Prog.bind_op, Prog.bind_ret, Prog.pure_eq_ret, Prog.bind_assoc]
  refine seq (step_vwait m K 12 rfl rfl rfl rfl) ?_
  refine seq (step_xwait m K 12 rfl rfl rfl rfl) ?_
  refine seq (step_swait m K 0 rfl rfl rfl rfl) ?_
  refine seq (step_swait m K 1 rfl rfl rfl rfl) ?_
  exact ret_done trivial

theorem part41_run :
    St2 m K c (Rest m c (Pre m c)) 13 13 2 ⊢ WP c (k0_part41 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c)
      (done (fun _ => True) (St2 m K c (Rest m c (Pre m c)) 13 13 6)) := by
  rw [k0_part41_eq_skeleton]
  unfold k0_part41_skel
  simp only [Prog.lift, Prog.bind_op, Prog.bind_ret, Prog.pure_eq_ret, Prog.bind_assoc]
  refine seq (step_swait m K 2 rfl rfl rfl rfl) ?_
  refine seq (step_swait m K 3 rfl rfl rfl rfl) ?_
  refine seq (step_swait m K 4 rfl rfl rfl rfl) ?_
  refine seq (step_swait m K 5 rfl rfl rfl rfl) ?_
  exact ret_done trivial

theorem part42_run :
    St2 m K c (Rest m c (Pre m c)) 13 13 6 ⊢ WP c (k0_part42 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c)
      (done (fun _ => True) (St2 m K c (Rest m c (Pre m c)) 13 13 9)) := by
  rw [k0_part42_eq_skeleton]
  unfold k0_part42_skel
  simp only [Prog.lift, Prog.bind_op, Prog.bind_ret, Prog.pure_eq_ret, Prog.bind_assoc]
  refine seq (step_swait m K 6 rfl rfl rfl rfl) ?_
  refine seq (step_swait m K 7 rfl rfl rfl rfl) ?_
  refine seq (step_swait m K 8 rfl rfl rfl rfl) ?_
  exact ret_done trivial

theorem part43_run :
    St2 m K c (Rest m c (Pre m c)) 13 13 9 ⊢ WP c (k0_part43 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c)
      (done (fun _ => True) (St2 m K c (Rest m c (Pre m c)) 13 13 12)) := by
  rw [k0_part43_eq_skeleton]
  unfold k0_part43_skel
  simp only [Prog.lift, Prog.bind_op, Prog.bind_ret, Prog.pure_eq_ret, Prog.bind_assoc]
  refine seq (step_swait m K 9 rfl rfl rfl rfl) ?_
  refine seq (step_swait m K 10 rfl rfl rfl rfl) ?_
  refine seq (step_swait m K 11 rfl rfl rfl rfl) ?_
  exact ret_done trivial

theorem part44_run :
    St2 m K c (Rest m c (Pre m c)) 13 13 12 ⊢ WP c (k0_part44 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5 c)
      (done (fun _ => True) (St2 m K c (Rest m c (Pre m c)) 13 13 16)) := by
  rw [k0_part44_eq_skeleton]
  unfold k0_part44_skel
  simp only [Prog.lift, Prog.bind_op, Prog.bind_ret, Prog.pure_eq_ret, Prog.bind_assoc]
  refine seq (step_swait m K 12 rfl rfl rfl rfl) ?_
  refine seq (step_swait m K 13 rfl rfl rfl rfl) ?_
  refine seq (step_swait m K 14 rfl rfl rfl rfl) ?_
  refine seq (step_swait m K 15 rfl rfl rfl rfl) ?_
  exact ret_done trivial

end Parts

end Cert.KernelIdeal.Own
end
-- ==== Proof.KernelIdealBody.lean ====
module

public import proofs.«01_k».proof.Proof.KernelIdealPartsA
public import proofs.«01_k».proof.Proof.KernelIdealPartsB
public import proofs.«01_k».proof.Proof.KernelIdealPartsC

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

section Body
variable (c : Dev nD)

/-! ## The barrier -/

/-- A `y` transfer's pieces without the slot it writes, an `x` transfer's without the rows. -/
def YU0 (k : Fin 19) : sProp 𝕄 :=
  iprop((pLoc c ↦{pTok k} P m c) ∗ dutyTok ER (ySendCell c k) 0 false ∗ dutyTok ER (yRecvCell (yn c) k) 0 false ∗ atPos ER (ySendCell c k) 0 ∅ 0)
def XU0 (k : Fin 13) : sProp 𝕄 :=
  iprop(dutyTok ER (xSendCell c k) 0 false ∗ dutyTok ER (xRecvCell (xn c) k) 0 false ∗ atPos ER (xSendCell c k) 0 ∅ 0)

/-- What the body starts from. -/
def Begin : sProp 𝕄 :=
  iprop(Ctx m K ∗ (∃ W, owes (c : Thread nD τ) (O₀ c) W)
    ∗ (cred (tallyAt (barCell c) () 2) ∗ atPos ER (barCell c) 0 ∅ 0 ∗ dutyTok ER (barCell (yn c)) 0 false ∗ dutyTok ER (barCell (xn c)) 0 true)
    ∗ ((bigSep Finset.univ fun k : Fin 19 => iprop(∃ f, commPts (F := F) c k f))
      ∗ bigSep Finset.univ fun k : Fin 13 => iprop(∃ f, oPts (F := F) c (xn c) (up13 k) f))
    ∗ bigSep Finset.univ (YU0 m c) ∗ bigSep Finset.univ (RP (F := F) c) ∗ bigSep Finset.univ (OR (F := F) c) ∗ bigSep Finset.univ (XU0 (F := F) c)
    ∗ PreRaw (F := F) c
    ∗ ((pLoc c ↦{Transfers.shareDrop fullShare 19} P m c) ∗ (rLoc c ↦{fullShare} R m c) ∗ (gLoc c ↦{fullShare} G m c))
    ∗ bigSep Finset.univ (VP (F := F) c))

theorem yu_join : iprop(yGive (F := F) c ∗ bigSep Finset.univ (YU0 m c)) ⊢ bigSep Finset.univ (YU m c) := by
  unfold yGive
  rw [← bigSep_sep']
  refine bigSep_mono fun k _ => ?_
  show iprop((∃ f, commPts (F := F) (yn c) k f) ∗ YU0 m c k) ⊢ YU m c k
  unfold YU YU0
  iintro ⟨Hf, Hp, Ht1, Ht2, Hat⟩
  isplitl [Hp]; · iexact Hp
  isplitl [Hf]; · iexact Hf
  isplitl [Ht1]; · iexact Ht1
  isplitl [Ht2]; · iexact Ht2
  iexact Hat

theorem xu_join : iprop(xGive (F := F) c ∗ bigSep Finset.univ (XU0 (F := F) c)) ⊢ bigSep Finset.univ (XU (F := F) c) := by
  unfold xGive
  rw [← bigSep_sep']
  refine bigSep_mono fun k _ => ?_
  show iprop((∃ f, oPts (F := F) (xn c) c (up13 k) f) ∗ XU0 (F := F) c k) ⊢ XU (F := F) c k
  unfold XU XU0
  iintro ⟨Hf, Hr⟩
  isplitl [Hf]; · iexact Hf
  iexact Hr

theorem pay_bar_y : (bigSep Finset.univ fun k : Fin 19 => iprop(∃ f, commPts (F := F) c k f)) = (Rd m).payload (barCell (yn c)) 0 false := by
  refine Eq.trans ?_ (payload_cell m (yn c) (.inl ()) false).symm
  show _ = bigSep Finset.univ fun k : Fin 19 => iprop(∃ f, commPts (F := F) (yn (yn c)) k f)
  rw [yn_yn]
theorem pay_bar_x : (bigSep Finset.univ fun k : Fin 13 => iprop(∃ f, oPts (F := F) c (xn c) (up13 k) f)) = (Rd m).payload (barCell (xn c)) 0 true := by
  refine Eq.trans ?_ (payload_cell m (xn c) (.inl ()) true).symm
  show _ = bigSep Finset.univ fun k : Fin 13 => iprop(∃ f, oPts (F := F) (xn (xn c)) (xn c) (up13 k) f)
  rw [xn_xn]

theorem part1_run :
    Begin m K c ⊢ WP c (k0_part1 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5)
      (done (fun v => v.1 = c) (St m K c (PreRaw (F := F) c) 0 0 0 0)) := by
  rw [k0_part1_eq_skeleton]
  unfold k0_part1_skel WP
  simp only [semSignalWord, semWaitWord, Prog.lift, Prog.bind_op, Prog.bind_ret, Prog.pure_eq_ret, Prog.bind_assoc, wp_deviceId]
  rw [show (⟨k0_dev1 c, k0_dev1_lt c⟩ : Dev nD) = yn c from Fin.ext (k0_dev1_eq c), show (⟨k0_dev2 c, k0_dev2_lt c⟩ : Dev nD) = xn c from Fin.ext (k0_dev2_eq c)]
  unfold Begin
  iintro ⟨#HC, ⟨%W, Ho⟩, ⟨Hc, Hat, Ht1, Ht2⟩, ⟨Hgy, Hgx⟩, HY, HR, HO, HX, HP, ⟨Hp, Hr, Hg⟩, HV⟩
  iapply (Rounds.wp_signal 𝒱₀ ER (Rd m) (c : Thread nD τ) none (dst := (yn c : Thread nD τ)) (κ := K (yn c, .inl ())) (r := 0) (d := false)
    (by rw [show (Rd m).duties ((yn c : Thread nD τ), .reg barS) 0 = dut (.inl ()) from duties_cell m (yn c) (.inl ())]; exact Finset.mem_univ _)
    ((amount_cell m (yn c) (.inl ()) false).trans (by decide)) () (O₁ c) rfl) $$ [Ho Ht1 Hgy]
  · isplitr; · iapply (ctx_inv m K (yn c) (.inl ())); iexact HC
    isplitl [Ho]; · iexact Ho
    isplitl [Ht1]; · iexact Ht1
    isplitl [Hgy]; · iapply (Entails.of_eq (pay_bar_y m c)); iexact Hgy
    iapply (ctx_reached m K (yn c) (.inl ())); iexact HC
  iintro Ho
  iapply (Rounds.wp_signal 𝒱₀ ER (Rd m) (c : Thread nD τ) none (dst := (xn c : Thread nD τ)) (κ := K (xn c, .inl ())) (r := 0) (d := true)
    (by rw [show (Rd m).duties ((xn c : Thread nD τ), .reg barS) 0 = dut (.inl ()) from duties_cell m (xn c) (.inl ())]; exact Finset.mem_univ _)
    ((amount_cell m (xn c) (.inl ()) true).trans (by decide)) () (OO c 0 0) rfl) $$ [Ho Ht2 Hgx]
  · isplitr; · iapply (ctx_inv m K (xn c) (.inl ())); iexact HC
    isplitl [Ho]; · iexact Ho
    isplitl [Ht2]; · iexact Ht2
    isplitl [Hgx]; · iapply (Entails.of_eq (pay_bar_x m c)); iexact Hgx
    iapply (ctx_reached m K (xn c) (.inl ())); iexact HC
  iintro Ho
  iapply (Rounds.wp_wait_rest_token 𝒱₀ ER (Rd m) (c : Thread nD τ) none (κ := K (c, .inl ()))
      (wpE_semWait_eq 𝒱₀ (c : Thread nD τ) none Set.univ) (Set.mem_univ _) () (O := OO c 0 0) (W := W) (R := 0) (m := 0) (T := ∅)
      (by rw [expect_bar]; decide)) $$ [Hc Ho Hat]
  · isplitr; · iapply (ctx_inv m K c (.inl ())); iexact HC
    isplitl [Hc]; · iexact Hc
    isplitl [Ho]; · iexact Ho
    isplitr
    · iapply (mayWait_bar c)
      iapply (ctx_lev m K); iexact HC
    iexact Hat
  iintro ⟨Ho, Hat, -, Hpay⟩
  ihave Hpay := (Entails.of_eq (rest_bar m c)) $$ Hpay
  icases Hpay with ⟨Hfy, Hfx⟩
  rw [wp_ret]
  imodintro
  unfold done
  isplitr
  · ipureintro; rfl
  unfold St
  rw [fam_zero, fam_zero, fam_zero, fam_zero, fam_zero]
  isplitr; · iexact HC
  isplitl [Hfy HY]
  · iapply (yu_join m c)
    isplitl [Hfy]; · iexact Hfy
    iexact HY
  isplitl [HR]; · iexact HR
  isplitl [HO]; · iexact HO
  isplitl [Hfx HX]
  · iapply (xu_join (F := F) c)
    isplitl [Hfx]; · iexact Hfx
    iexact HX
  isplitl [Ho]; · iexists _; iexact Ho
  isplitl [HP]; · iexact HP
  isplitr [HV]
  · unfold Ops
    isplitl [Hp]; · iexact Hp
    isplitl [Hr]; · iexact Hr
    isplitl [Hg]; · iexact Hg
    iexact Hat
  iexact HV

/-! ## The parts in sequence -/

theorem part45_run :
    Begin m K c ⊢ WP c (k0_part45 pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5)
      (done (fun v => v = c) (St2 m K c (Rest m c (Pre m c)) 13 13 16)) := by
  rw [k0_part45_eq_skeleton]
  unfold k0_part45_skel
  refine part_seq (part1_run m K c) fun v hv => ?_
  obtain ⟨d0, v2, v5, v6, v7, v18, v19⟩ := v
  dsimp only at hv ⊢
  subst hv
  refine part_seq (part2_run m K d0 _ _ _) fun _ _ => ?_
  refine part_seq (part3_run m K d0 _ _ _) fun _ _ => ?_
  refine part_seq (part4_run m K d0 _ _ _) fun _ _ => ?_
  refine part_seq (part5_run m K d0 _ _ _) fun _ _ => ?_
  refine part_seq (part6_run m K d0 _ _ _) fun _ _ => ?_
  refine part_seq (part7_run m K d0 _ _ _) fun _ _ => ?_
  refine part_seq (part8_run m K d0 _ _ _) fun _ _ => ?_
  refine part_seq (part9_run m K d0 _ _ _ _) fun _ _ => ?_
  refine part_seq (part10_run m K d0 _ _ _ _) fun _ _ => ?_
  refine part_seq (part11_run m K d0 _ _ _) fun v hv => ?_
  subst hv
  refine part_seq (part12_run m K d0 _ _ _ _) fun _ _ => ?_
  refine part_seq (part13_run m K d0 _ _ _ _ _) fun v hv => ?_
  obtain ⟨w0, w1, w2⟩ := v
  dsimp only at hv ⊢
  obtain ⟨rfl, rfl⟩ := hv
  refine part_seq (part14_run m K d0 _ _ _ _ _) fun v hv => ?_
  subst hv
  refine part_seq (part15_run m K d0 _ _ _ _ _) fun _ _ => ?_
  refine part_seq (part16_run m K d0 _ _ _) fun _ _ => ?_
  refine part_seq (part17_run m K d0 _ _ _ _) fun _ _ => ?_
  refine part_seq (part18_run m K d0 _ _ _ _ _) fun v hv => ?_
  obtain ⟨w0, w1, w2⟩ := v
  dsimp only at hv ⊢
  obtain ⟨rfl, rfl⟩ := hv
  refine part_seq (part19_run m K d0 _ _ _ _ _) fun v hv => ?_
  subst hv
  refine part_seq (part20_run m K d0 _ _ _ _ _) fun _ _ => ?_
  refine part_seq (part21_run m K d0 _ _ _) fun _ _ => ?_
  refine part_seq (part22_run m K d0 _ _ _ _) fun _ _ => ?_
  refine part_seq (part23_run m K d0 _ _ _ _ _) fun v hv => ?_
  obtain ⟨w0, w1, w2⟩ := v
  dsimp only at hv ⊢
  obtain ⟨rfl, rfl⟩ := hv
  refine part_seq (part24_run m K d0 _ _ _ _ _) fun v hv => ?_
  subst hv
  refine part_seq (part25_run m K d0 _ _ _ _ _) fun _ _ => ?_
  refine part_seq (part26_run m K d0 _ _ _) fun _ _ => ?_
  refine part_seq (part27_run m K d0 _ _ _ _) fun _ _ => ?_
  refine part_seq (part28_run m K d0 _ _ _ _ _) fun v hv => ?_
  obtain ⟨w0, w1, w2⟩ := v
  dsimp only at hv ⊢
  obtain ⟨rfl, rfl⟩ := hv
  refine part_seq (part29_run m K d0 _ _ _ _) fun v hv => ?_
  obtain ⟨w0, w1, w2⟩ := v
  dsimp only at hv ⊢
  obtain ⟨rfl, rfl⟩ := hv
  refine part_seq (part30_run m K d0 _ _ _ _) fun v hv => ?_
  subst hv
  refine part_seq (part31_run m K d0 _ _ _) fun v hv => ?_
  obtain ⟨w0, w1, w2⟩ := v
  dsimp only at hv ⊢
  obtain ⟨rfl, rfl⟩ := hv
  refine part_seq (part32_run m K d0 _ _ _ _) fun v hv => ?_
  obtain ⟨w0, w1⟩ := v
  dsimp only at hv ⊢
  subst hv
  refine part_seq (part33_run m K d0 _ _ _ _) fun _ _ => ?_
  refine part_seq (part34_run m K d0 _ _ _) fun _ _ => ?_
  refine part_seq (part35_run m K d0 _ _) fun _ _ => ?_
  refine part_seq (part36_run m K d0 _ _) fun _ _ => ?_
  refine part_seq (part37_run m K d0 _ _) fun _ _ => ?_
  refine part_seq (part38_run m K d0 _ _) fun _ _ => ?_
  refine part_seq (part39_run m K d0 _ _ _ _) fun _ _ => ?_
  refine part_seq (part40_run m K d0 ) fun _ _ => ?_
  refine part_seq (part41_run m K d0 ) fun _ _ => ?_
  refine part_seq (part42_run m K d0 ) fun _ _ => ?_
  refine part_seq (part43_run m K d0 ) fun _ _ => ?_
  refine part_seq (part44_run m K d0 ) fun _ _ => ?_
  exact ret_done rfl

theorem body_run :
    Begin m K c ⊢ WP c (cc0_body pM (Memref.isWhole_whole _) rM (Memref.isWhole_whole _) gM (Memref.isWhole_whole _) oM (Memref.isWhole_whole _) cM (Memref.isWhole_whole _) preM (Memref.isWhole_whole _) cc0_scratch2 cc0_scratch3 cc0_scratch4 cc0_scratch5)
      (done (fun _ => True) (St2 m K c (Rest m c (Pre m c)) 13 13 19)) := by
  rw [cc0_body_eq_skeleton]
  unfold cc0_body_skel
  refine part_seq (part45_run m K c) fun v hv => ?_
  subst hv
  simp only [Prog.lift, Prog.bind_op, Prog.bind_ret, Prog.pure_eq_ret, Prog.bind_assoc]
  refine seq (step_swait m K 16 rfl rfl rfl rfl) ?_
  refine seq (step_swait m K 17 rfl rfl rfl rfl) ?_
  refine seq (step_swait m K 18 rfl rfl rfl rfl) ?_
  exact ret_done trivial

end Body

end Cert.KernelIdeal.Own
end
-- ==== Proof.KernelIdealEnds.lean ====
module

public import proofs.«01_k».proof.Proof.KernelIdealBody

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

section Ends
variable (c : Dev nD)

/-! ## The chunks of the result and the slots of the receive buffer -/

/-- Chunk `x` of the result on device `c`: one of its own, or one of its `x` neighbour's. -/
def oSet (x : Fin 19 ⊕ Fin 13) : Finset S512x512.Idx :=
  match x with
  | .inl k => (oRow c k).view.set
  | .inr k => (oRow (xn c) (up13 k)).view.set

theorem mem_oSet (x : Fin 19 ⊕ Fin 13) (i : S512x512.Idx) : i ∈ oSet c x ↔ cidx c x = chunkNo i := by
  rcases x with k | k
  · have hd := rowOf_dvd c k
    refine (mem_oRow c k i).trans ?_
    show _ ↔ (⟨rowOf c k / 16, _⟩ : Fin 32) = ⟨(i 0).val / 16, _⟩
    rw [Fin.mk.injEq]
    constructor
    · rintro ⟨h1, h2⟩; omega
    · intro h; constructor <;> omega
  · have hd := rowOf_dvd (xn c) k
    refine (mem_oRow (xn c) (up13 k) i).trans ?_
    show rowOf (xn c) k ≤ _ ∧ _ < rowOf (xn c) k + 16 ↔ (⟨rowOf (xn c) k / 16, _⟩ : Fin 32) = ⟨(i 0).val / 16, _⟩
    rw [Fin.mk.injEq]
    constructor
    · rintro ⟨h1, h2⟩; omega
    · intro h; constructor <;> omega

theorem oSet_disj (x y : Fin 19 ⊕ Fin 13) (h : x ≠ y) : Disjoint (oSet c x) (oSet c y) :=
  Finset.disjoint_left.mpr fun i hx hy =>
    h ((cidx_bij c).1 (((mem_oSet c x i).mp hx).trans ((mem_oSet c y i).mp hy).symm))

theorem oSet_cover : Finset.univ.biUnion (oSet c) = Finset.univ :=
  Finset.eq_univ_iff_forall.mpr fun i => by
    obtain ⟨x, hx⟩ := (cidx_bij c).2 (chunkNo i)
    exact Finset.mem_biUnion.mpr ⟨x, Finset.mem_univ _, (mem_oSet c x i).mpr hx⟩

/-- The result whole is its own chunks and the neighbour's. -/
theorem o_chunks (f : Buf (Elt F) (oLoc c)) :
    (oLoc c ↦{fullShare} f : sProp 𝕄)
      = iprop((bigSep Finset.univ fun k : Fin 19 => oPts c c k f) ∗ bigSep Finset.univ fun k : Fin 13 => oPts c (xn c) (up13 k) f) := by
  rw [Ring.pointsTo_blocks (oSet c) (oSet_disj c) (oSet_cover c) f, BI.bigSep_univ_sum]
  rfl

def cSet (k : Fin 19) : Finset S19x16x512.Idx := (cSlot k).view.set

theorem cSet_disj (x y : Fin 19) (h : x ≠ y) : Disjoint (cSet x) (cSet y) :=
  Finset.disjoint_left.mpr fun i hx hy => h (((mem_cSlot x i).mp hx).symm.trans ((mem_cSlot y i).mp hy))

theorem cSet_cover : Finset.univ.biUnion cSet = Finset.univ :=
  Finset.eq_univ_iff_forall.mpr fun i => Finset.mem_biUnion.mpr ⟨i 0, Finset.mem_univ _, (mem_cSlot (i 0) i).mpr rfl⟩

theorem c_slots (f : Buf (Elt F) (cLoc c)) :
    (cLoc c ↦{fullShare} f : sProp 𝕄) = bigSep Finset.univ fun k : Fin 19 => commPts c k f := by
  rw [Ring.pointsTo_blocks cSet cSet_disj cSet_cover f]
  rfl

/-! ## Conjunctions over a core's cells -/

/-- The cells of a core, by kind. -/
theorem bigSep_CI (Φ : CI → sProp (MT nD τ sig Unit (Elt F) ℕ UU ℕ)) :
    bigSep Finset.univ Φ = iprop(Φ (.inl ()) ∗ ((bigSep Finset.univ fun k => Φ (iYS k)) ∗ bigSep Finset.univ fun k => Φ (iYR k))
      ∗ (bigSep Finset.univ fun k => Φ (iXS k)) ∗ bigSep Finset.univ fun k => Φ (iXR k)) := by
  rw [BI.bigSep_univ_sum, BI.bigSep_univ_sum, BI.bigSep_univ_sum, BI.bigSep_univ_sum,
    show (Finset.univ : Finset Unit) = {()} from rfl, bigSep_singleton]
  rfl

/-! ## The start -/

/-- The positions of a core's cells, and the tokens of the duties it pays. -/
def linear : sProp 𝕄 :=
  iprop((bigSep Finset.univ fun i : CI => atPos ER (cell c i) 0 ∅ 0)
    ∗ dutyTok ER (barCell (yn c)) 0 false ∗ dutyTok ER (barCell (xn c)) 0 true
    ∗ (bigSep Finset.univ fun k : Fin 19 => dutyTok ER (ySendCell c k) 0 false)
    ∗ (bigSep Finset.univ fun k : Fin 19 => dutyTok ER (yRecvCell (yn c) k) 0 false)
    ∗ (bigSep Finset.univ fun k : Fin 13 => dutyTok ER (xSendCell c k) 0 false)
    ∗ (bigSep Finset.univ fun k : Fin 13 => dutyTok ER (xRecvCell (xn c) k) 0 false))

/-- The credit of what the other cores pay in. -/
def credits : sProp 𝕄 :=
  iprop(cred (tallyAt (barCell c) () 2) ∗ (bigSep Finset.univ fun k : Fin 19 => cred (tallyAt (yRecvCell c k) () N))
    ∗ bigSep Finset.univ fun k : Fin 13 => cred (tallyAt (xRecvCell c k) () N))

/-- The buffers as the body finds them. -/
def bufs : sProp 𝕄 :=
  iprop((pLoc c ↦{fullShare} P m c) ∗ (rLoc c ↦{fullShare} R m c) ∗ (gLoc c ↦{fullShare} G m c)
    ∗ (∃ f, oLoc c ↦{fullShare} f) ∗ (∃ f, cLoc c ↦{fullShare} f) ∗ PreRaw (F := F) c)

theorem begin_intro : iprop(Ctx m K ∗ linear (F := F) c ∗ credits (F := F) c ∗ (∃ W, owes (c : Thread nD τ) (O₀ c) W) ∗ bufs m c) ⊢ Begin m K c := by
  have hYU : iprop((bigSep Finset.univ fun k : Fin 19 => pLoc c ↦{pTok k} P m c) ∗ (bigSep Finset.univ fun k : Fin 19 => dutyTok ER (ySendCell c k) 0 false)
      ∗ (bigSep Finset.univ fun k : Fin 19 => dutyTok ER (yRecvCell (yn c) k) 0 false) ∗ (bigSep Finset.univ fun k : Fin 19 => atPos ER (ySendCell c k) 0 ∅ 0))
      ⊢ (bigSep Finset.univ (YU0 m c) : sProp 𝕄) := by
    rw [← bigSep_sep', ← bigSep_sep', ← bigSep_sep']; exact BI.Entails.refl _
  have hXU : iprop((bigSep Finset.univ fun k : Fin 13 => dutyTok ER (xSendCell c k) 0 false)
      ∗ (bigSep Finset.univ fun k : Fin 13 => dutyTok ER (xRecvCell (xn c) k) 0 false) ∗ (bigSep Finset.univ fun k : Fin 13 => atPos ER (xSendCell c k) 0 ∅ 0))
      ⊢ (bigSep Finset.univ (XU0 (F := F) c) : sProp 𝕄) := by
    rw [← bigSep_sep', ← bigSep_sep']; exact BI.Entails.refl _
  have hRP : iprop((bigSep Finset.univ fun k : Fin 19 => cred (tallyAt (yRecvCell c k) () N)) ∗ (bigSep Finset.univ fun k : Fin 19 => atPos ER (yRecvCell c k) 0 ∅ 0))
      ⊢ (bigSep Finset.univ (RP (F := F) c) : sProp 𝕄) := by
    rw [← bigSep_sep']; exact BI.Entails.refl _
  have hVP : iprop((bigSep Finset.univ fun k : Fin 13 => cred (tallyAt (xRecvCell c k) () N)) ∗ (bigSep Finset.univ fun k : Fin 13 => atPos ER (xRecvCell c k) 0 ∅ 0))
      ⊢ (bigSep Finset.univ (VP (F := F) c) : sProp 𝕄) := by
    rw [← bigSep_sep']; exact BI.Entails.refl _
  have hC (f : Buf (Elt F) (cLoc c)) : (bigSep Finset.univ fun k : Fin 19 => commPts c k f) ⊢ (bigSep Finset.univ fun k : Fin 19 => iprop(∃ f, commPts (F := F) c k f) : sProp 𝕄) :=
    bigSep_mono fun k _ => by
      show (commPts c k f : sProp 𝕄) ⊢ iprop(∃ f, commPts (F := F) c k f)
      iintro H; iexists f; iexact H
  have hO (f : Buf (Elt F) (oLoc c)) : (bigSep Finset.univ fun k : Fin 19 => oPts c c k f) ⊢ (bigSep Finset.univ (OR (F := F) c) : sProp 𝕄) :=
    bigSep_mono fun k _ => by
      show (oPts c c k f : sProp 𝕄) ⊢ OR (F := F) c k
      unfold OR
      iintro H; iexists f; iexact H
  have hN (f : Buf (Elt F) (oLoc c)) : (bigSep Finset.univ fun k : Fin 13 => oPts c (xn c) (up13 k) f)
      ⊢ (bigSep Finset.univ fun k : Fin 13 => iprop(∃ f, oPts (F := F) c (xn c) (up13 k) f) : sProp 𝕄) :=
    bigSep_mono fun k _ => by
      show (oPts c (xn c) (up13 k) f : sProp 𝕄) ⊢ iprop(∃ f, oPts (F := F) c (xn c) (up13 k) f)
      iintro H; iexists f; iexact H
  unfold linear credits bufs Begin
  rw [bigSep_CI]
  iintro ⟨HC, ⟨⟨Hab, ⟨Hays, Hayr⟩, Haxs, Haxr⟩, Htb1, Htb2, Htys, Htyr, Htxs, Htxr⟩, ⟨Hcb, Hcy, Hcx⟩, HO, Hp, Hr, Hg, ⟨%fo, Ho⟩, ⟨%fc, Hc⟩, Hpre⟩
  ihave Hp' := (Transfers.pointsTo_toks_split fullShare 19) $$ Hp
  icases Hp' with ⟨Hp0, Hpt⟩
  ihave Ho' := (Entails.of_eq (o_chunks c fo)) $$ Ho
  icases Ho' with ⟨Ho1, Ho2⟩
  ihave Hc' := (Entails.of_eq (c_slots c fc)) $$ Hc
  isplitl [HC]; · iexact HC
  isplitl [HO]; · iexact HO
  isplitl [Hab Htb1 Htb2 Hcb]
  · isplitl [Hcb]; · iexact Hcb
    isplitl [Hab]; · iexact Hab
    isplitl [Htb1]; · iexact Htb1
    iexact Htb2
  isplitl [Hc' Ho2]
  · isplitl [Hc']
    · iapply (hC fc); iexact Hc'
    · iapply (hN fo); iexact Ho2
  isplitl [Hpt Htys Htyr Hays]
  · iapply hYU
    isplitl [Hpt]; · iexact Hpt
    isplitl [Htys]; · iexact Htys
    isplitl [Htyr]; · iexact Htyr
    iexact Hays
  isplitl [Hcy Hayr]
  · iapply hRP
    isplitl [Hcy]; · iexact Hcy
    iexact Hayr
  isplitl [Ho1]
  · iapply (hO fo); iexact Ho1
  isplitl [Htxs Htxr Haxs]
  · iapply hXU
    isplitl [Htxs]; · iexact Htxs
    isplitl [Htxr]; · iexact Htxr
    iexact Haxs
  isplitl [Hpre]; · iexact Hpre
  isplitl [Hp0 Hr Hg]
  · isplitl [Hp0]; · iexact Hp0
    isplitl [Hr]; · iexact Hr
    iexact Hg
  iapply hVP
  isplitl [Hcx]; · iexact Hcx
  iexact Haxr

/-! ## The end -/

/-- Every cell, its one round over, is closed at zero. -/
theorem close_all : iprop(Ctx (F := F) m K ∗ bigSep Finset.univ fun i : CI => atPos ER (cell c i) 1 ∅ 0)
    ⊢ |={Set.univ}=> (bigSep Finset.univ fun i : CI => semVal (cell c i) 0 : sProp 𝕄) := by
  refine BIBase.Entails.trans ?_ (bigSep_fupd Finset.univ fun i : CI => (semVal (cell c i) 0 : sProp 𝕄))
  refine (sep_mono_left (BI.bigSep_of_persistent (Finset.univ : Finset CI) (Ctx (F := F) m K))).trans ?_
  rw [← bigSep_sep']
  refine bigSep_mono fun i _ => ?_
  show iprop(Ctx (F := F) m K ∗ atPos ER (cell c i) 1 ∅ 0) ⊢ |={Set.univ}=> (semVal (cell c i) 0 : sProp 𝕄)
  exact (sep_mono_left (ctx_inv m K c i)).trans
    (Rounds.cell_close ER (Rd m) (Set.mem_univ _) (fun h => h) (R := 0 + 1) (duties_later m (cell c i)))

/-- What the body leaves: every counter at zero, the buffers whole, the result's contents. -/
def Finish : sProp 𝕄 :=
  iprop((bigSep Finset.univ fun i : CI => semVal (cell c i) 0) ∗ (pLoc c ↦{fullShare} P m c) ∗ (rLoc c ↦{fullShare} R m c) ∗ (gLoc c ↦{fullShare} G m c)
    ∗ (oLoc c ↦{fullShare} outAt m c) ∗ (∃ f : Buf (Elt F) (cLoc c), cLoc c ↦{fullShare} f) ∗ (∃ f : Buf (Elt F) (preLoc c), preLoc c ↦{fullShare} f))

theorem fin19_split (Φ : Fin 19 → sProp (MT nD τ sig Unit (Elt F) ℕ UU ℕ)) :
    bigSep Finset.univ Φ = iprop((bigSep Finset.univ fun k : Fin 13 => Φ (up13 k)) ∗ bigSep Finset.univ fun k : Fin 6 => Φ (Fin.natAdd 13 k)) := by
  rw [BI.bigSep_univ_equiv (finSumFinEquiv : Fin 13 ⊕ Fin 6 ≃ Fin 19) Φ, BI.bigSep_univ_sum]
  rfl

theorem os_join : iprop((bigSep Finset.univ (OS m c 13)) ∗ bigSep Finset.univ fun k : Fin 13 => oPts c c (up13 k) (outAt m c))
    ⊢ (bigSep Finset.univ fun k : Fin 19 => oPts c c k (outAt m c) : sProp 𝕄) := by
  rw [fin19_split (OS m c 13), fin19_split (fun k : Fin 19 => (oPts c c k (outAt m c) : sProp 𝕄))]
  have h : (bigSep Finset.univ fun b : Fin 6 => OS m c 13 (Fin.natAdd 13 b))
      ⊢ (bigSep Finset.univ fun b : Fin 6 => oPts c c (Fin.natAdd 13 b) (outAt m c) : sProp 𝕄) :=
    bigSep_mono fun b _ => by
      show OS m c 13 (Fin.natAdd 13 b) ⊢ (oPts c c (Fin.natAdd 13 b) (outAt m c) : sProp 𝕄)
      unfold OS
      rw [if_neg (by rw [Fin.val_natAdd]; omega)]
  iintro ⟨⟨-, H⟩, HX⟩
  isplitl [HX]
  · iexact HX
  · iapply h; iexact H

theorem finish : St2 m K c (Rest m c (Pre m c)) 13 13 19 ⊢ |={Set.univ}=> (iprop(Finish m c ∗ ∃ W, owes (c : Thread nD τ) 0 W) : sProp 𝕄) := by
  have hV : (bigSep Finset.univ (VG m c)) ⊢ (iprop((bigSep Finset.univ fun k : Fin 13 => oPts c (xn c) (up13 k) (outAt m c)) ∗ bigSep Finset.univ fun k : Fin 13 => atPos ER (xRecvCell c k) 1 ∅ 0) : sProp 𝕄) := by
    rw [← bigSep_sep']; exact BI.Entails.refl _
  have hX : (bigSep Finset.univ (XD m c)) ⊢ (iprop((bigSep Finset.univ fun k : Fin 13 => oPts c c (up13 k) (outAt m c)) ∗ bigSep Finset.univ fun k : Fin 13 => atPos ER (xSendCell c k) 1 ∅ 0) : sProp 𝕄) := by
    rw [← bigSep_sep']; exact BI.Entails.refl _
  have hY : (bigSep Finset.univ (YD m c)) ⊢ (iprop((bigSep Finset.univ fun k : Fin 19 => pLoc c ↦{pTok k} P m c) ∗ bigSep Finset.univ fun k : Fin 19 => atPos ER (ySendCell c k) 1 ∅ 0) : sProp 𝕄) := by
    rw [← bigSep_sep']; exact BI.Entails.refl _
  have hR : (bigSep Finset.univ (RG m c)) ⊢ (iprop((bigSep Finset.univ fun k : Fin 19 => commPts c k (commAt m c)) ∗ bigSep Finset.univ fun k : Fin 19 => atPos ER (yRecvCell c k) 1 ∅ 0) : sProp 𝕄) := by
    rw [← bigSep_sep']; exact BI.Entails.refl _
  unfold St2 Rest Ops
  rw [fam_full, fam_full, fam_full]
  iintro ⟨HC, HV, HX, HY, HO, HR, HOS, HPre, Hp0, Hr, Hg, Hab⟩
  ihave HV' := hV $$ HV
  icases HV' with ⟨HV, Hxr⟩
  ihave HX' := hX $$ HX
  icases HX' with ⟨HX, Hxs⟩
  ihave HY' := hY $$ HY
  icases HY' with ⟨HY, Hys⟩
  ihave HR' := hR $$ HR
  icases HR' with ⟨HR, Hyr⟩
  imod (close_all m K c) $$ [HC Hxr Hxs Hys Hyr Hab] with Hz
  · isplitl [HC]; · iexact HC
    rw [bigSep_CI]
    isplitl [Hab]; · iexact Hab
    isplitl [Hys Hyr]
    · isplitl [Hys]; · iexact Hys
      iexact Hyr
    isplitl [Hxs]; · iexact Hxs
    iexact Hxr
  imodintro
  isplitr [HO]
  · unfold Finish
    isplitl [Hz]; · iexact Hz
    isplitl [Hp0 HY]
    · iapply (Transfers.pointsTo_toks_join fullShare 19)
      isplitl [Hp0]; · iexact Hp0
      iexact HY
    isplitl [Hr]; · iexact Hr
    isplitl [Hg]; · iexact Hg
    isplitl [HOS HX HV]
    · rw [o_chunks]
      isplitl [HOS HX]
      · iapply (os_join m c)
        isplitl [HOS]; · iexact HOS
        iexact HX
      · iexact HV
    isplitl [HR]
    · iexists (commAt m c)
      rw [c_slots]; iexact HR
    · iexists (preAt m c)
      iapply (show Pre m c ⊢ (preLoc c ↦{fullShare} preAt m c : sProp 𝕄) from BI.Entails.refl _); iexact HPre
  · iexact HO

end Ends

end Cert.KernelIdeal.Own
end
-- ==== Proof.KernelIdealData.lean ====
module

public import proofs.«01_k».proof.Proof.KernelIdealEnds

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The proof data -/

/-- What a core starts the region with. -/
def ghost (c : Dev nD) : sProp 𝕄 := iprop(∃ K, records m K ∗ linear (F := F) c)
def start (c : Dev nD) : sProp 𝕄 := iprop(ghost m c ∗ credits (F := F) c ∗ levAts L lv)
def Φ₀ (c : Dev nD) : sProp 𝕄 :=
  iprop(start m c ∗ (∃ f : Buf (Elt F) (cLoc c), cLoc c ↦{fullShare} f) ∗ ∃ f : Buf (Elt F) (preLoc c), preLoc c ↦{fullShare} f)
def Φ₁ (c : Dev nD) : sProp 𝕄 :=
  iprop((bigSep Finset.univ fun i : CI => semVal (cell c i) 0)
    ∗ (∃ f : Buf (Elt F) (cLoc c), cLoc c ↦{fullShare} f) ∗ ∃ f : Buf (Elt F) (preLoc c), preLoc c ↦{fullShare} f)

def dats (_ : Fin 1) (c : Dev nD) : Dat τ (Elt F) Unit ℕ UU ℕ cfg0 c where
  A w := (mst m ρ).mem ((cfg0.win w).arr.view.loc (c : Thread nD τ))
  after w _ := match w with
    | ⟨0, _⟩ => P m c
    | ⟨1, _⟩ => R m c
    | ⟨2, _⟩ => G m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

section Body
variable (c : Dev nD)

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost : sProp 𝕄 :=
  iprop(Φ₁ c ∗ (dats m ρ 0 c).owesAt () t0_0.succ ∗ stg c cc0_stg0_0 (P m c) ∗ stg c cc0_stg1_0 (R m c) ∗ stg c cc0_stg2_0 (G m c)
    ∗ stg c cc0_stg3_0 (outAt m c))

theorem before_0 (d) : (dats m ρ 0 c).before (0 : Fin 4) t0_0 d = P m c := by
  unfold Dat.before; rw [if_pos (fetch_0 t0_0)]; rfl
theorem before_1 (d) : (dats m ρ 0 c).before (1 : Fin 4) t0_0 d = R m c := by
  unfold Dat.before; rw [if_pos (fetch_1 t0_0)]; rfl
theorem before_2 (d) : (dats m ρ 0 c).before (2 : Fin 4) t0_0 d = G m c := by
  unfold Dat.before; rw [if_pos (fetch_2 t0_0)]; rfl

theorem bodyPre_begin : bodyPre m ρ c ⊢ (iprop(∃ K, Begin m K c) : sProp 𝕄) := by
  unfold bodyPre Φ₀ start ghost Dat.owesAt Pipeline.owesWithin
  iintro ⟨⟨⟨⟨%K, HR, HL⟩, Hcr, Hlev⟩, Hc, Hpre⟩, ⟨%W, %hW, HO⟩, ⟨%d0, %f0, %h0, H0⟩, ⟨%d1, %f1, %h1, H1⟩, ⟨%d2, %f2, %h2, H2⟩, ⟨%d3, %f3, %h3, H3⟩⟩
  rw [before_0] at h0; rw [before_1] at h1; rw [before_2] at h2
  subst h0 h1 h2
  iexists K
  iapply (begin_intro m K c)
  isplitl [HR Hlev]
  · unfold Ctx
    isplitl [HR]; · iexact HR
    iexact Hlev
  isplitl [HL]; · iexact HL
  isplitl [Hcr]; · iexact Hcr
  isplitl [HO]
  · iexists W
    iapply (Entails.of_eq (show (owes (c : Thread nD τ) ((dats m ρ 0 c).owed t0_0.castSucc) W : sProp 𝕄) = owes (c : Thread nD τ) (O₀ c) W from rfl)); iexact HO
  unfold bufs PreRaw
  isplitl [H0]; · iexact H0
  isplitl [H1]; · iexact H1
  isplitl [H2]; · iexact H2
  isplitl [H3]; · iexists f3; iexact H3
  isplitl [Hc]; · iexact Hc
  iexact Hpre

theorem bodyPost_intro : iprop(Finish m c ∗ ∃ W, owes (c : Thread nD τ) 0 W) ⊢ bodyPost m ρ c := by
  unfold bodyPost Finish Φ₁ Dat.owesAt Pipeline.owesWithin
  iintro ⟨⟨Hz, H0, H1, H2, H3, Hc, Hpre⟩, %W, HO⟩
  isplitl [Hz Hc Hpre]
  · isplitl [Hz]; · iexact Hz
    isplitl [Hc]; · iexact Hc
    iexact Hpre
  isplitl [HO]
  · iexists W
    isplitr; · ipureintro; exact fun _ _ => Or.inl trivial
    iapply (Entails.of_eq (show (owes (c : Thread nD τ) 0 W : sProp 𝕄) = owes (c : Thread nD τ) ((dats m ρ 0 c).owed t0_0.succ) W from rfl)); iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 16384 in
theorem body_sound : bodyPre m ρ c ⊢ WP c (cc0_body pM (Memref.isWhole_whole _) rM (Memref.isWhole_whole _) gM (Memref.isWhole_whole _) oM (Memref.isWhole_whole _)
      cM (Memref.isWhole_whole _) preM (Memref.isWhole_whole _) cc0_scratch2 cc0_scratch3 cc0_scratch4 cc0_scratch5) (fun _ => bodyPost m ρ c) := by
  refine (bodyPre_begin m ρ c).trans ?_
  have h (K : Dev nD × CI → ℕ) := (body_run m K c).trans ((wp_mono frame (wpE (defs₀ (F := F)) 𝒱₀ (c : Thread nD τ) none) Set.univ fun a =>
    show done (fun _ => True) (St2 m K c (Rest m c (Pre m c)) 13 13 19) a ⊢ |={Set.univ}=> (bodyPost m ρ c : sProp 𝕄) from by
      refine BIBase.Entails.trans ?_ (BI.fupd_mono (bodyPost_intro m ρ c))
      refine BIBase.Entails.trans ?_ (finish m K c)
      unfold done
      iintro ⟨-, H⟩; iexact H).trans (wp_fupd frame (wpE (defs₀ (F := F)) 𝒱₀ (c : Thread nD τ) none) Set.univ _ _))
  iintro ⟨%K, HB⟩
  iapply (h K); iexact HB

set_option maxRecDepth 16384 in
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body pM (Memref.isWhole_whole _) rM (Memref.isWhole_whole _) gM (Memref.isWhole_whole _) oM (Memref.isWhole_whole _)
      cM (Memref.isWhole_whole _) preM (Memref.isWhole_whole _) cc0_scratch2 cc0_scratch3 cc0_scratch4 cc0_scratch5) (fun _ => bodyPost m ρ c)
  exact body_sound m ρ c

end Body

end Cert.KernelIdeal.Own
end
-- ==== Proof.KernelIdealLaunch.lean ====
module

public import proofs.«01_k».proof.Proof.KernelIdealData
public import Idealize.ShloMosaic.Lib.Pipeline.CollectiveSegs

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## The cells and tokens the launch deals -/

theorem ownSemFacts : Pipeline.OwnSemFacts cfg0.spec osem := by decide +kernel

theorem share_eq (c : Dev nD) (w : Fin cfg0.W) : (dats m ρ 0 c).share w = fullShare := by unfold Dat.share; split <;> rfl

abbrev cellAt (ci : Dev nD × CI) : GSem nD τ sig := cell ci.1 ci.2

theorem cell_eq_iff {c d : Dev nD} {i j : CI} : cell c i = cell d j ↔ c = d ∧ i = j := by
  constructor
  · intro h
    exact ⟨congrArg (fun g : GSem nD τ sig => g.1.1) h, csem_inj (congrArg Prod.snd h)⟩
  · rintro ⟨rfl, rfl⟩; rfl

theorem cellAt_inj : Function.Injective cellAt := fun ⟨_, _⟩ ⟨_, _⟩ h =>
  Prod.ext (cell_eq_iff.mp h).1 (cell_eq_iff.mp h).2

def allCells : Finset (GSem nD τ sig) := Finset.univ.map ⟨cellAt, cellAt_inj⟩

/-- The duty tokens of a device's own cells: two of its barrier's, one of each other's. -/
abbrev TI : Type := Bool ⊕ KI
def tokOf (x : Dev nD × TI) : GSem nD τ sig × ℕ × Bool :=
  match x.2 with
  | .inl b => (cell x.1 (.inl ()), 0, b)
  | .inr k => (cell x.1 (.inr k), 0, false)

theorem tokOf_inj : Function.Injective tokOf := by
  rintro ⟨c, a | a⟩ ⟨d, b | b⟩ h
  · have h1 := (cell_eq_iff.mp (congrArg Prod.fst h)).1
    have h2 : a = b := congrArg (fun x : GSem nD τ sig × ℕ × Bool => x.2.2) h
    cases h1; cases h2; rfl
  · exact absurd (cell_eq_iff.mp (congrArg Prod.fst h)).2 (fun h => by cases h)
  · exact absurd (cell_eq_iff.mp (congrArg Prod.fst h)).2 (fun h => by cases h)
  · have h1 := cell_eq_iff.mp (congrArg Prod.fst h)
    cases h1.1; cases h1.2; rfl

def allToks : Finset (GSem nD τ sig × ℕ × Bool) := Finset.univ.map ⟨tokOf, tokOf_inj⟩

def u₀ : UU :=
  (initOf (Pipeline.cells cfgs cellOf_inj) (Pipeline.launchToks cfgs cellOf_inj), initOf allCells allToks)

def toks (c : Dev nD) : sProp 𝕄 :=
  iprop((dutyTok ER (barCell c) 0 false ∗ dutyTok ER (barCell c) 0 true)
    ∗ ((bigSep Finset.univ fun k : Fin 19 => dutyTok ER (ySendCell c k) 0 false) ∗ (bigSep Finset.univ fun k : Fin 19 => dutyTok ER (yRecvCell c k) 0 false))
    ∗ (bigSep Finset.univ fun k : Fin 13 => dutyTok ER (xSendCell c k) 0 false) ∗ (bigSep Finset.univ fun k : Fin 13 => dutyTok ER (xRecvCell c k) 0 false))

/-- What the launch deals device `c`. -/
def Deal (c : Dev nD) : sProp 𝕄 :=
  iprop((bigSep Finset.univ fun i : CI => roundState ER (Rd m) (cell c i) 0)
    ∗ (bigSep Finset.univ fun i : CI => iprop(atPos ER (cell c i) 0 ∅ 0 ∗ reached ER (cell c i) 0)) ∗ toks (F := F) c)

theorem toks_eq (c : Dev nD) : (bigSep Finset.univ fun x : TI => (dutyTok ER (tokOf (c, x)).1 (tokOf (c, x)).2.1 (tokOf (c, x)).2.2 : sProp 𝕄)) = toks c := by
  rw [BI.bigSep_univ_sum, BI.bigSep_univ_sum, BI.bigSep_univ_sum, BI.bigSep_univ_sum,
    bigSep_univ_eq_bigSepL [false, true] (by decide) (by decide), bigSepL_cons_cons, bigSepL_singleton]
  rfl

theorem fund : BI.own (ER (initOf allCells allToks)) ⊢ (|==> bigSep Finset.univ (Deal m) : sProp 𝕄) := by
  have hX (Φ : GSem nD τ sig → sProp 𝕄) : bigSep allCells Φ = bigSep Finset.univ fun c : Dev nD => bigSep Finset.univ fun i : CI => Φ (cell c i) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Deal; simp only [bigSep_sep']
  isplitl [Hst']; · iexact Hst'
  isplitl [Hat' Hr']
  · isplitl [Hat'] <;> iassumption
  iexact Htok'

theorem unscoped_eq (c : Dev nD) : (unscopedSems0 c : sProp 𝕄) = semVal (barCell c) 0 := by
  unfold unscopedSems0; rw [bigSep_eq_bigSepL_of_eq [SemLoc.reg barS] (by decide +kernel) (by decide +kernel)]; rfl

/-- The kernel's own semaphores and the barrier's are the cells of the core. -/
theorem sems_eq (c : Dev nD) :
    (bigSep Finset.univ fun i : CI => semVal (cell c i) 0 : sProp 𝕄)
      = iprop(unscopedSems0 c ∗ Pipeline.ownSems0 (Ix := Unit) (Name := ℕ) (U := UU) (Lvl := ℕ) (Val := Elt F) (τ := τ) osem c) := by
  rw [BI.bigSep_univ_sum, show (Finset.univ : Finset Unit) = {()} from rfl, bigSep_singleton, unscoped_eq]
  rfl

theorem core_alloc (c : Dev nD) :
    iprop(Pipeline.ownSems0 (Ix := Unit) (Name := ℕ) (U := UU) (Lvl := ℕ) (Val := Elt F) (τ := τ) osem c ∗ unscopedSems0 c ∗ Deal m c)
      ⊢ |={Set.univ}=> iprop((bigSep Finset.univ fun i => iprop(∃ κ : ℕ, cellInv ER (Rd m) κ (cell c i)))
          ∗ (bigSep Finset.univ fun i => iprop(atPos ER (cell c i) 0 ∅ 0 ∗ reached ER (cell c i) 0)) ∗ toks (F := F) c) := by
  have hI : iprop((bigSep Finset.univ fun i : CI => semVal (cell c i) 0) ∗ bigSep Finset.univ fun i : CI => roundState ER (Rd m) (cell c i) 0)
      ⊢ (|={Set.univ}=> bigSep Finset.univ fun i => iprop(∃ κ : ℕ, cellInv ER (Rd m) κ (cell c i)) : sProp 𝕄) := by
    rw [← bigSep_sep']
    exact (bigSep_mono fun i _ => (Rounds.body_intro ER (Rd m) (cell c i)).trans inv_alloc).trans (bigSep_fupd _ _)
  unfold Deal
  iintro ⟨Hos, Hus, Hst, Hat, Htok⟩
  imod hI $$ [Hos Hus Hst] with Hinv
  · isplitl [Hos Hus]
    · rw [sems_eq]
      isplitl [Hus]; · iexact Hus
      iexact Hos
    · iexact Hst
  imodintro
  isplitl [Hinv]; · iexact Hinv
  isplitl [Hat]; · iexact Hat
  iexact Htok

/-- The tokens go to the devices that pay: the barrier's to the two neighbours, the receives' to the sender. -/
theorem toks_around : iprop((bigSep Finset.univ fun c : Dev nD => bigSep Finset.univ fun i : CI => atPos ER (cell c i) 0 ∅ 0) ∗ bigSep Finset.univ fun c : Dev nD => toks (F := F) c)
    ⊢ (bigSep Finset.univ fun c : Dev nD => linear (F := F) c : sProp 𝕄) := by
  unfold toks linear
  simp only [bigSep_sep']
  rw [bigSep_univ_equiv yE (fun c : Dev nD => (dutyTok ER (barCell c) 0 false : sProp 𝕄)),
    bigSep_univ_equiv xE (fun c : Dev nD => (dutyTok ER (barCell c) 0 true : sProp 𝕄)),
    bigSep_univ_equiv yE (fun c : Dev nD => (bigSep Finset.univ fun k : Fin 19 => dutyTok ER (yRecvCell c k) 0 false : sProp 𝕄)),
    bigSep_univ_equiv xE (fun c : Dev nD => (bigSep Finset.univ fun k : Fin 13 => dutyTok ER (xRecvCell c k) 0 false : sProp 𝕄))]
  iintro ⟨Ha, ⟨H1, H2⟩, ⟨H3, H4⟩, H5, H6⟩
  isplitl [Ha]; · iexact Ha
  isplitl [H1]; · iexact H1
  isplitl [H2]; · iexact H2
  isplitl [H3]; · iexact H3
  isplitl [H4]; · iexact H4
  isplitl [H5]; · iexact H5
  iexact H6

theorem ghost_intro (K : Dev nD × CI → ℕ) (c : Dev nD) : iprop(records m K ∗ linear (F := F) c) ⊢ ghost m c := by
  unfold ghost
  iintro H
  iexists K; iexact H

theorem regroup :
    (bigSep Finset.univ fun c : Dev nD => iprop((bigSep Finset.univ fun i => iprop(∃ κ : ℕ, cellInv ER (Rd m) κ (cell c i)))
          ∗ (bigSep Finset.univ fun i => iprop(atPos ER (cell c i) 0 ∅ 0 ∗ reached ER (cell c i) 0)) ∗ toks (F := F) c) : sProp 𝕄)
      ⊢ bigSep Finset.univ (ghost m) := by
  have hP (K : Dev nD × CI → ℕ) : iprop(records m K ∗ bigSep Finset.univ fun c : Dev nD => linear (F := F) c) ⊢ (bigSep Finset.univ (ghost m) : sProp 𝕄) :=
    (sep_mono_left (BI.bigSep_of_persistent (Finset.univ : Finset (Dev nD)) (records m K))).trans
      (by rw [← bigSep_sep']; exact bigSep_mono fun c _ => ghost_intro m K c)
  rw [bigSep_sep', bigSep_sep', ← bigSep_univ_prod (fun ci : Dev nD × CI => iprop(∃ κ : ℕ, cellInv ER (Rd m) κ (cellAt ci))),
    bigSep_congr (s := Finset.univ) (fun (c : Dev nD) _ => bigSep_sep' Finset.univ (fun i : CI => (atPos ER (cell c i) 0 ∅ 0 : sProp 𝕄)) (fun i => reached ER (cell c i) 0)),
    bigSep_sep', ← bigSep_univ_prod (fun ci : Dev nD × CI => (reached ER (cellAt ci) 0 : sProp 𝕄))]
  iintro ⟨HI, ⟨Hat, HR⟩, Htok⟩
  ihave HK := (BI.bigSep_exists_pi Finset.univ (fun (ci : Dev nD × CI) (κ : ℕ) => (cellInv ER (Rd m) κ (cellAt ci) : sProp 𝕄))) $$ HI
  icases HK with ⟨%K, HI⟩
  iapply (hP K)
  isplitl [HI HR]
  · unfold records
    isplitl [HI]; · iexact HI
    iexact HR
  · iapply (toks_around (F := F))
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ Deal m c) : sProp 𝕄)
    ⊢ |={Set.univ}=> bigSep Finset.univ (ghost m) :=
  ((bigSep_mono fun c _ => core_alloc m c).trans (bigSep_fupd _ _)).trans (BI.fupd_mono (regroup m))

/-! ## The launch credit -/

theorem tally_cell (d c : Dev nD) (j i : CI) (n : ℕ) :
    (tallyAt (cell d j) () n : CellTallies nD τ sig Unit) (cell c i) () = if c = d ∧ i = j then n else 0 := by
  rw [tallyAt_apply]
  congr 1
  exact propext ⟨fun h => cell_eq_iff.mp h.1, fun h => ⟨cell_eq_iff.mpr h, rfl⟩⟩

/-- What device `d` owes cell `i` of device `c`. -/
theorem owed_at (d c : Dev nD) (i : CI) :
    O₀ d (cell c i) () = (∑ k : Fin 19, if c = yn d ∧ i = iYR k then N else 0) + (∑ k : Fin 13, if c = xn d ∧ i = iXR k then N else 0)
      + (if c = xn d ∧ i = .inl () then 1 else 0) + (if c = yn d ∧ i = .inl () then 1 else 0) := by
  unfold O₀ O₁ OO OY OX
  rw [Pi.add_apply, Finsupp.add_apply, Pi.add_apply, Finsupp.add_apply, Pi.add_apply, Finsupp.add_apply,
    Finset.sum_apply, Finsupp.finset_sum_apply, Finset.sum_apply, Finsupp.finset_sum_apply]
  refine congrArg₂ (· + ·) (congrArg₂ (· + ·) (congrArg₂ (· + ·) (Finset.sum_congr rfl fun k _ => ?_) (Finset.sum_congr rfl fun k _ => ?_))
    (tally_cell (xn d) c (.inl ()) i 1)) (tally_cell (yn d) c (.inl ()) i 1)
  · rw [if_pos (Nat.zero_le _)]
    exact tally_cell (yn d) c (iYR k) i N
  · rw [if_pos (Nat.zero_le _)]
    exact tally_cell (xn d) c (iXR k) i N

theorem eq_yn {c d : Dev nD} : c = yn d ↔ d = yn c := ⟨fun h => by rw [h, yn_yn], fun h => by rw [h, yn_yn]⟩
theorem eq_xn {c d : Dev nD} : c = xn d ↔ d = xn c := ⟨fun h => by rw [h, xn_xn], fun h => by rw [h, xn_xn]⟩

/-- The credit a cell is launched with. -/
def due (i : CI) : ℕ := match i with
  | .inl _ => 2
  | .inr (.inl (.inr _)) => N
  | .inr (.inr (.inr _)) => N
  | _ => 0

theorem owed_sum (c : Dev nD) (i : CI) : ∑ d : Dev nD, O₀ d (cell c i) () = due i := by
  rw [Finset.sum_congr rfl fun d _ => owed_at d c i]
  simp only [eq_yn, eq_xn]
  rcases i with _ | (k | k) | (k | k)
  · have h1 (k : Fin 19) : ¬ (Sum.inl PUnit.unit : CI) = iYR k := fun h => by cases h
    have h2 (k : Fin 13) : ¬ (Sum.inl PUnit.unit : CI) = iXR k := fun h => by cases h
    simp [h1, h2, Finset.sum_add_distrib, due]
  · simp [due]
  · simp [due, Finset.sum_add_distrib, ite_and, Sum.inr.injEq, Sum.inl.injEq]
  · simp [due]
  · simp [due, Finset.sum_add_distrib, ite_and, Sum.inr.injEq, Sum.inl.injEq]

theorem launch_at (c : Dev nD) (i : CI) :
    tallyOn (cell c i) (launchCredit (Pipeline.owing O₀) 0 (cell c i)) = (tallyAt (cell c i) () (due i) : CellTallies nD τ sig Unit) := by
  unfold tallyAt; refine congrArg _ (Finsupp.ext fun u => ?_); cases u
  rw [Pipeline.launchCredit_owing, Finsupp.single_eq_same, owed_sum]

theorem creds (c : Dev nD) : (Pipeline.launchCred O₀ c : sProp 𝕄) ⊢ credits (F := F) c := by
  have h : (Pipeline.launchCred O₀ c : sProp 𝕄) ⊢ bigSep Finset.univ fun i : CI => cred (tallyAt (cell c i) () (due i)) := by
    unfold Pipeline.launchCred
    refine (BI.bigSep_subset (Finset.subset_univ ((Finset.univ : Finset CI).map ⟨csem, csem_inj⟩))).trans ?_
    rw [bigSep_map]
    exact Entails.of_eq (bigSep_congr fun i _ => congrArg _ (launch_at c i))
  refine h.trans ?_
  rw [bigSep_CI]
  unfold credits
  iintro ⟨H1, ⟨-, H2⟩, -, H3⟩
  isplitl [H1]; · iexact H1
  isplitl [H2]; · iexact H2
  iexact H3

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems_eq]
  iintro ⟨⟨H1, H2⟩, H3⟩
  isplitl [H1]; · iexact H1
  isplitl [H2]; · iexact H2
  iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16384 in
/-- Every execution of the four devices ends, with each window's array at its final contents and every semaphore at zero. -/
theorem run_main : θ_run defs (onTc (τ := τ) (main (F := F))) (mst m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := Deal m) (G' := ghost m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Own
end
-- ==== Proof.KernelIdealRun.lean ====
module
public import proofs.«01_k».proof.Proof.KernelIdealLaunch
public import Idealize.ShloMosaic.Lib.Pipeline.ValueKit

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the run leaves -/

theorem finalA_0 (c : Dev nD) : finalA m ρ c (0 : Fin 4) = m ((c : Thread nD τ).loc main_arg0) :=
  (dats (F := F) m ρ 0 c).arrAt_in (0 : Fin 4) rfl _
theorem finalA_1 (c : Dev nD) : finalA m ρ c (1 : Fin 4) = m ((c : Thread nD τ).loc main_arg1) :=
  (dats (F := F) m ρ 0 c).arrAt_in (1 : Fin 4) rfl _
theorem finalA_2 (c : Dev nD) : finalA m ρ c (2 : Fin 4) = m ((c : Thread nD τ).loc main_arg2) :=
  (dats (F := F) m ρ 0 c).arrAt_in (2 : Fin 4) rfl _

/-- The result array after the run: the one point writes all of it. -/
theorem finalA_3 (c : Dev nD) : finalA m ρ c (3 : Fin 4) = outAt m c := by
  unfold finalA
  refine (dats (F := F) m ρ 0 c).arrAt_eq_of_after_last (3 : Fin 4) t0_0 (by decide +kernel) _ fun j => ?_
  blk_simp
  rfl

/-- Every execution ends with the arguments unchanged and every semaphore at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ∧ r.2.sem = fun _ => 0) :=
  (θ_run defs _ _).mono (fun _ h => ⟨fun c => ⟨(h.1 c (0 : Fin 4)).trans (finalA_0 m ρ c), (h.1 c (1 : Fin 4)).trans (finalA_1 m ρ c),
    (h.1 c (2 : Fin 4)).trans (finalA_2 m ρ c)⟩, h.2⟩) (run_main m ρ)

/-- Every execution ends with each device's result at the computed contents. -/
theorem result : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨(h.1 c (3 : Fin 4)).trans (finalA_3 m ρ c), (h.1 c (0 : Fin 4)).trans (finalA_0 m ρ c),
    (h.1 c (1 : Fin 4)).trans (finalA_1 m ρ c), (h.1 c (2 : Fin 4)).trans (finalA_2 m ρ c)⟩) (run_main m ρ)

end Cert.KernelIdeal.Own
end
-- ==== Proof.KernelIdealValue.lean ====
module

public import proofs.«01_k».proof.Proof.KernelIdealRun
public import Idealize.ShloMosaic.Lib.Pointwise.Tactic
public import Idealize.ShloMosaic.Lib.ValueLayout

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers' elements -/

theorem P_apply (c : Dev nD) (i : S1x512x512.Idx) : P m c i = m ((c : Thread nD τ).loc main_arg0) i := by
  unfold P; blk_simp
  refine congrArg (m ((c : Thread nD τ).loc main_arg0)) (funext fun a => Fin.ext ?_)
  fin_cases a
  · show 0 * 1 + 1 * (i 0).val = (i 0).val; omega
  · show 0 * 512 + 1 * (i 1).val = (i 1).val; omega
  · show 0 * 512 + 1 * (i 2).val = (i 2).val; omega
theorem R_apply (c : Dev nD) (i : S512x512.Idx) : R m c i = m ((c : Thread nD τ).loc main_arg1) i := by
  unfold R; blk_simp
  refine congrArg (m ((c : Thread nD τ).loc main_arg1)) (funext fun a => Fin.ext ?_)
  fin_cases a
  · show 0 * 512 + 1 * (i 0).val = (i 0).val; omega
  · show 0 * 512 + 1 * (i 1).val = (i 1).val; omega
theorem G_apply (c : Dev nD) (i : S512.Idx) : G m c i = m ((c : Thread nD τ).loc main_arg2) i := by
  unfold G; blk_simp
  refine congrArg (m ((c : Thread nD τ).loc main_arg2)) (funext fun a => Fin.ext ?_)
  fin_cases a
  show 0 * 512 + 1 * (i 0).val = (i 0).val; omega

/-- A row of a chunk, as a row of the whole array. -/
def rowIn (c : Dev nD) (k : Fin 19) (a : Fin 16) : Fin 512 := ⟨rowOf c k + a.val, by have := rowOf_le c k k.isLt; omega⟩

/-- The rectangle of a chunk's rows. -/
theorem row_idx (c : Dev nD) (k : Fin 19) (a : Fin 16) (b : Fin 512) :
    (rowRect c k).idx (ix2 a b : S16x512.Idx) = (ix2 (rowIn c k a) b : S512x512.Idx) := by
  funext x; refine Fin.ext ?_
  fin_cases x
  · show rowOf c k + 1 * a.val = rowOf c k + a.val; omega
  · show 0 + 1 * b.val = b.val; omega

/-- The block of `partial` read without its leading axis. -/
theorem sq_read (c : Dev nD) (f : Buf (Elt F) (pLoc c)) (x y : Fin 512) :
    sqM.view.read (Elt F) f (ix2 x y : S512x512.Idx) = f (ix3 (0 : Fin 1) x y : S1x512x512.Idx) := by
  show f ((Rect.unit (s := S1x512x512) ![0, 0, 0] S1x512x512.size Facts₀.inb_S1x512x512_S1x512x512_0_0_0).emb
    (Shape.reshapeEquiv (Shape.Squeezes.numel_eq Facts₀.squeezes_S1x512x512_S512x512) (ix2 x y))) = _
  refine congrArg f ?_
  refine (congrArg _ (ValueIdx.reshapeEquiv_ix2_1ab _ x y)).trans ?_
  funext a; refine Fin.ext ?_
  fin_cases a
  · rfl
  · show 0 + 1 * x.val = x.val; omega
  · show 0 + 1 * y.val = y.val; omega

theorem pSent_apply (c : Dev nD) (k : Fin 19) (a : Fin 16) (b : Fin 512) :
    pSent m c k (ix2 a b : S16x512.Idx) = m ((c : Thread nD τ).loc main_arg0) (ix3 (0 : Fin 1) (rowIn (yn c) k a) b : S1x512x512.Idx) := by
  refine Eq.trans ?_ (P_apply m c _)
  refine Eq.trans ?_ (sq_read c _ _ _)
  show sqM.view.read (Elt F) (P m c) ((rowRect (yn c) k).idx (ix2 a b : S16x512.Idx)) = _
  rw [row_idx]

/-- The received rows of a chunk are the `y` neighbour's. -/
theorem yb_apply (c : Dev nD) (k : Fin 19) (a : Fin 16) (b : Fin 512) :
    yb m c k (ix3 (0 : Fin 1) a b : S1x16x512.Idx)
      = m (((yn c : Dev nD) : Thread nD τ).loc main_arg0) (ix3 (0 : Fin 1) (rowIn c k a) b : S1x512x512.Idx) := by
  have hs : (slotRect k).idx (ix3 (0 : Fin 1) a b : S1x16x512.Idx) = (cSlot k).view.emb (ix2 a b : S16x512.Idx) := by
    show _ = (Rect.unit (s := S19x16x512) (cOff k) S1x16x512.size (cOff_inb k k.isLt)).emb
      (Shape.reshapeEquiv (Shape.Squeezes.numel_eq Facts₀.squeezes_S1x16x512_S16x512) (ix2 a b))
    exact (congrArg _ (ValueIdx.reshapeEquiv_ix2_1ab _ a b)).symm
  have hm : (cSlot k).view.emb (ix2 a b : S16x512.Idx) ∈ (cSlot k).view.set := Finset.mem_map_of_mem _ (Finset.mem_univ _)
  show commAt m c ((slotRect k).idx (ix3 (0 : Fin 1) a b : S1x16x512.Idx)) = _
  rw [hs, ← commAt_eq m c k (m (cLoc c)) _ hm]
  unfold commOf
  refine (View.write_emb_of_mem (v := (cSlot k).view) _ _ (Finset.mem_univ _)).trans ?_
  refine (pSent_apply m (yn c) k a b).trans ?_
  rw [yn_yn]

/-- The device's own sum of a chunk. -/
theorem ya_apply (c : Dev nD) (k : Fin 19) (a : Fin 16) (b : Fin 512) :
    ya m c k (ix2 a b : S16x512.Idx)
      = FloatOps.addf (m ((c : Thread nD τ).loc main_arg0) (ix3 (0 : Fin 1) (rowIn c k a) b : S1x512x512.Idx))
          (m ((c : Thread nD τ).loc main_arg1) (ix2 (rowIn c k a) b : S512x512.Idx)) := by
  rw [← P_apply m, ← R_apply m]
  refine Eq.trans ?_ (congrArg (fun z => FloatOps.addf z _) (sq_read c (P m c) _ _))
  by_cases h : k.val < 16
  · rw [ya_lo m c k h]
    show preAt m c ((preRect k h).idx (ix2 a b : S16x512.Idx)) = _
    have hp : (preRect k h).idx (ix2 a b : S16x512.Idx) = (ix2 (⟨16 * k.val + a.val, by omega⟩ : Fin 256) b : S256x512.Idx) := by
      funext x; refine Fin.ext ?_
      fin_cases x
      · show 16 * k.val + 1 * a.val = 16 * k.val + a.val; omega
      · show 0 + 1 * b.val = b.val; omega
    have ho : (ownRect c).idx (ix2 (⟨16 * k.val + a.val, by omega⟩ : Fin 256) b : S256x512.Idx) = (ix2 (rowIn c k a) b : S512x512.Idx) := by
      funext x; refine Fin.ext ?_
      fin_cases x
      · show k0_off3 c 0 + 1 * (16 * k.val + a.val) = rowOf c k + a.val
        rw [off3_eq]
        show own c * 256 + 1 * (16 * k.val + a.val) = rowOf c k + a.val
        unfold rowOf; rw [if_pos h]; omega
      · show k0_off3 c 1 + 1 * b.val = b.val
        rw [off3_eq]
        show 0 + 1 * b.val = b.val; omega
    rw [hp]
    unfold preAt k0_pay1
    rw [shapeCast_id, shapeCast_id, shapeCast_id]
    show FloatOps.addf (sqM.view.read (Elt F) (P m c) ((ownRect c).idx _)) (R m c ((ownRect c).idx _)) = _
    rw [ho]
  · rw [ya_hi m c k h]
    unfold k0_pay35 pv rv
    rw [shapeCast_id, shapeCast_id]
    show FloatOps.addf (sqM.view.read (Elt F) (P m c) ((rowRect c k).idx _)) (R m c ((rowRect c k).idx _)) = _
    rw [row_idx]

/-- The sum of a chunk's rows over the two devices of a `y` pair and the residual. -/
theorem y_apply (c : Dev nD) (k : Fin 19) (a : Fin 16) (b : Fin 512) :
    k0_pay7 (ya m c k) (yb m c k) (ix2 a b : S16x512.Idx)
      = FloatOps.addf (FloatOps.addf (m ((c : Thread nD τ).loc main_arg0) (ix3 (0 : Fin 1) (rowIn c k a) b : S1x512x512.Idx))
          (m ((c : Thread nD τ).loc main_arg1) (ix2 (rowIn c k a) b : S512x512.Idx)))
          (m (((yn c : Dev nD) : Thread nD τ).loc main_arg0) (ix3 (0 : Fin 1) (rowIn c k a) b : S1x512x512.Idx)) := by
  rw [← ya_apply m, ← yb_apply m]
  unfold k0_pay7
  show FloatOps.addf _ (yb m c k (Shape.reshapeEquiv _ _)) = _
  exact congrArg (fun z => FloatOps.addf _ (yb m c k z)) (ValueIdx.reshapeEquiv_ix2_1ab _ a b)

theorem gv_apply (c : Dev nD) (b : Fin 512) : gv m c (ix1 b : S512.Idx) = m ((c : Thread nD τ).loc main_arg2) (ix1 b : S512.Idx) := by
  rw [← G_apply m]
  unfold gv k0_pay2
  rw [shapeCast_id]
  show G m c (LoadRect.idx _ _) = _
  refine congrArg (G m c) (funext fun x => Fin.ext ?_)
  fin_cases x
  show 0 + 1 * b.val = b.val; omega

/-! ## The value over the extended reals -/

section Value
variable (mI : (ℓ : Loc nD τ sig) → Buf (Elt Ideal) ℓ)

/-- What a chunk's element is, of the sums `y` and the weights `g`. -/
theorem pay8_apply (g : FVec Ideal S512 .f32) (y : FVec Ideal S16x512 .f32) (a : Fin 16) (b : Fin 512) :
    k0_pay8 (F := Ideal) g y (ix2 a b : S16x512.Idx)
      = y (ix2 a b : S16x512.Idx) * Ideal.rsqrt (Ideal.div (∑ k : Fin 512, y (ix2 a k : S16x512.Idx) * y (ix2 a k : S16x512.Idx))
          (Ideal.ofBits .f32 0x44000000#32) + Ideal.ofBits .f32 0x358637BD#32) * g (ix1 b : S512.Idx) := by
  pointwise [k0_pay8]

end Value

end Cert.KernelIdeal.Own
end
-- ==== Proof.KernelIdealEqual.lean ====
module

public import proofs.«01_k».proof.Proof.KernelIdealValue
public import proofs.«01_k».proof.Proof.Gen.ReferenceIdeal.Run
public import Idealize.ShloMosaic.Lib.Pointwise.Tactic

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The chunks' rows and the devices' blocks -/

/-- A chunk of the result starts at the row of the chunk it was computed as. -/
theorem src_row (c : Dev nD) (q : Fin 32) : rowOf (src c q).1 (src c q).2 = 16 * q.val := by
  have hq := congrArg Fin.val ((cidxE c).apply_symm_apply q)
  unfold src
  cases h : (cidxE c).symm q with
  | inl k =>
    rw [h] at hq
    have hq' : rowOf c k / 16 = q.val := hq
    have := rowOf_dvd c k
    show rowOf c k = _
    omega
  | inr k =>
    rw [h] at hq
    have hq' : rowOf (xn c) k / 16 = q.val := hq
    have := rowOf_dvd (xn c) k
    show rowOf (xn c) k = _
    omega

/-- Which block of the whole `partial` a device holds. -/
def par (c : Dev nD) : Fin 2 := ⟨c.val % 2, Nat.mod_lt _ (by decide)⟩

theorem par_yn : ∀ c : Dev nD, par (yn c) = 1 - par c := by decide

theorem block_val : ∀ c : Dev nD, Layout.meshLin [2, 2] c.val ((![[1], [], []] : Fin 3 → List ℕ) 0) = c.val % 2
    ∧ Layout.meshLin [2, 2] c.val ((![[1], [], []] : Fin 3 → List ℕ) 1) = 0
    ∧ Layout.meshLin [2, 2] c.val ((![[1], [], []] : Fin 3 → List ℕ) 2) = 0 := by decide

/-- An element of a device's block, in the whole array. -/
theorem block_elt {α : Type} (X : (⟨3, ![2, 512, 512]⟩ : Shape).Idx → α) (c : Dev nD) (r l : Fin 512)
    (h : Layout.TilesN (⟨3, ![1, 512, 512]⟩ : Shape) ⟨3, ![2, 512, 512]⟩ fun b => Layout.cutSize [2, 2] ((![[1], [], []] : Fin 3 → List ℕ) b)) :
    Layout.blockN ⟨3, ![1, 512, 512]⟩ ⟨3, ![2, 512, 512]⟩ (Layout.meshBlock [2, 2] ![[1], [], []] c) X h (ix3 (0 : Fin 1) r l)
      = X (ix3 (par c) r l) := by
  obtain ⟨h0, h1, h2⟩ := block_val c
  rw [Layout.blockN_apply]
  refine congrArg X (funext fun b => Fin.ext ?_)
  rw [Layout.TilesN.idx_val]
  fin_cases b
  · show Layout.meshLin [2, 2] c.val ((![[1], [], []] : Fin 3 → List ℕ) 0) * 1 + 0 = c.val % 2
    rw [h0]; omega
  · show Layout.meshLin [2, 2] c.val ((![[1], [], []] : Fin 3 → List ℕ) 1) * 512 + r.val = r.val
    rw [h1]; omega
  · show Layout.meshLin [2, 2] c.val ((![[1], [], []] : Fin 3 → List ℕ) 2) * 512 + l.val = l.val
    rw [h2]; omega

/-! ## The scalars -/

theorem ofBits_512 : Ideal.ofBits .f32 0x44000000#32 = ((512 : ℝ) : EReal) := by
  simp [Ideal.ofBits, Ideal.ieee, -EReal.coe_mul]; norm_num

theorem ofBits_eps : (0 : EReal) < Ideal.ofBits .f32 0x358637BD#32 := by
  simp [Ideal.ofBits, Ideal.ieee, -EReal.coe_mul]

theorem sq_nonneg' (y : EReal) : 0 ≤ y * y := by
  induction y with
  | bot => simp
  | top => simp
  | coe y => exact_mod_cast mul_self_nonneg y

/-- A quotient by a root is the product with the inverse root, where the radicand is positive. -/
theorem div_sqrt (y x : EReal) (hx : 0 < x) : Ideal.div y (Ideal.sqrt x) = y * Ideal.rsqrt x := by
  induction x with
  | bot => exact absurd hx (by simp)
  | top => simp [Ideal.div]
  | coe x =>
    have hx' : 0 < x := by exact_mod_cast hx
    have hs : Real.sqrt x ≠ 0 := (Real.sqrt_pos.mpr hx').ne'
    rw [Ideal.sqrt_coe, Ideal.rsqrt_coe, if_neg hx'.not_gt, if_neg hx'.not_gt, if_neg hx'.ne', Ideal.div_coe hs, one_div]

theorem mean_pos (s : EReal) (hs : 0 ≤ s) : 0 < Ideal.div s (Ideal.ofBits .f32 0x44000000#32) + Ideal.ofBits .f32 0x358637BD#32 := by
  rw [ofBits_512, Ideal.div_coe (by norm_num : (512 : ℝ) ≠ 0)]
  exact lt_of_lt_of_le ofBits_eps (le_add_of_nonneg_left (mul_nonneg hs (by exact_mod_cast (by norm_num : (0 : ℝ) ≤ 1 / 512))))

/-! ## The reference's term -/

section Ref
open Cert.ReferenceIdeal.Facts₀

/-- The reference's result, of its arguments. -/
def refOut (x : FVec Ideal Cert.ReferenceIdeal.S2x512x512 .f32) (r : FVec Ideal Cert.ReferenceIdeal.S512x512 .f32)
    (g : FVec Ideal Cert.ReferenceIdeal.S512 .f32) : FVec Ideal Cert.ReferenceIdeal.S512x512 .f32 :=
  mulf (Host.divf (addf (Host.reduceAdd x (constant Cert.ReferenceIdeal.S_ .f32 0x00000000#32) reducesTo_S2x512x512_S512x512_d0 h_S_) r) (broadcastInDim Cert.ReferenceIdeal.S512x512 ![0, 1] bcast_S512x1_S512x512_0_1 (Host.sqrt (addf (Host.divf (broadcastInDim Cert.ReferenceIdeal.S512x1 ![0] bcast_S512_S512x1_0 (Host.reduceAdd (mulf (addf (Host.reduceAdd x (constant Cert.ReferenceIdeal.S_ .f32 0x00000000#32) reducesTo_S2x512x512_S512x512_d0 h_S_) r) (addf (Host.reduceAdd x (constant Cert.ReferenceIdeal.S_ .f32 0x00000000#32) reducesTo_S2x512x512_S512x512_d0 h_S_) r)) (constant Cert.ReferenceIdeal.S_ .f32 0x00000000#32) reducesTo_S512x512_S512_d1 h_S_)) (broadcastInDim Cert.ReferenceIdeal.S512x1 ![] bcast_S_S512x1 (constant Cert.ReferenceIdeal.S_ .f32 0x44000000#32))) (broadcastInDim Cert.ReferenceIdeal.S512x1 ![] bcast_S_S512x1 (constant Cert.ReferenceIdeal.S_ .f32 0x358637BD#32)))))) (broadcastInDim Cert.ReferenceIdeal.S512x512 ![0, 1] bcast_S1x512_S512x512_0_1 (broadcastInDim Cert.ReferenceIdeal.S1x512 ![1] bcast_S512_S1x512_1 g))

/-- The rows' sum of the reference at an element. -/
def refY (x : FVec Ideal Cert.ReferenceIdeal.S2x512x512 .f32) (r : FVec Ideal Cert.ReferenceIdeal.S512x512 .f32) (p q : Fin 512) : EReal :=
  (∑ k : Fin 2, x (ix3 k p q)) + r (ix2 p q)

theorem refOut_apply (x : FVec Ideal Cert.ReferenceIdeal.S2x512x512 .f32) (r : FVec Ideal Cert.ReferenceIdeal.S512x512 .f32)
    (g : FVec Ideal Cert.ReferenceIdeal.S512 .f32) (p q : Fin 512) :
    refOut x r g (ix2 p q) = Ideal.div (refY x r p q) (Ideal.sqrt (Ideal.div (∑ k : Fin 512, refY x r p k * refY x r p k)
      (Ideal.ofBits .f32 0x44000000#32) + Ideal.ofBits .f32 0x358637BD#32)) * g (ix1 q) := by
  pointwise [refOut, refY]

end Ref

/-! ## The two results are one -/

section Equal
variable (mI : (ℓ : Loc nD τ sig) → Buf (Elt Ideal) ℓ)
variable (X : FVec Ideal Cert.ReferenceIdeal.S2x512x512 .f32) (r : FVec Ideal Cert.ReferenceIdeal.S512x512 .f32)
  (g : FVec Ideal Cert.ReferenceIdeal.S512 .f32)

/-- What the claim supposes of the arguments: each device holds its block of `partial`, and the others whole. -/
def Agree : Prop := ∀ c : Dev nD,
  mI ((c.tc : Thread nD τ).loc main_arg0) = Layout.blockN ⟨3, ![1, 512, 512]⟩ ⟨3, ![2, 512, 512]⟩ (Layout.meshBlock [2, 2] ![[1], [], []] c) X
  ∧ mI ((c.tc : Thread nD τ).loc main_arg1) = r ∧ mI ((c.tc : Thread nD τ).loc main_arg2) = g

variable {mI X r g}

/-- The sum a chunk's rows are normalised from is the reference's. -/
theorem y_ref (h : Agree mI X r g) (c : Dev nD) (k : Fin 19) (a : Fin 16) (b : Fin 512) :
    k0_pay7 (F := Ideal) (ya mI c k) (yb mI c k) (ix2 a b : S16x512.Idx) = refY X r (rowIn c k a) b := by
  have h1 : mI ((c.tc : Thread nD τ).loc main_arg0) (ix3 (0 : Fin 1) (rowIn c k a) b : S1x512x512.Idx) = X (ix3 (par c) (rowIn c k a) b) :=
    (congrFun (h c).1 _).trans (block_elt X c _ _ _)
  have h2 : mI (((yn c).tc : Thread nD τ).loc main_arg0) (ix3 (0 : Fin 1) (rowIn c k a) b : S1x512x512.Idx) = X (ix3 (1 - par c) (rowIn c k a) b) :=
    (congrFun (h (yn c)).1 _).trans ((block_elt X (yn c) _ _ _).trans (by rw [par_yn]))
  have h3 : mI ((c.tc : Thread nD τ).loc main_arg1) (ix2 (rowIn c k a) b : S512x512.Idx) = r (ix2 (rowIn c k a) b) := congrFun (h c).2.1 _
  rw [y_apply, h1, h2, h3]
  unfold refY
  show X _ + r _ + X _ = _
  rw [Fin.sum_univ_two]
  generalize par c = p
  fin_cases p
  · exact add_right_comm _ _ _
  · show X (ix3 1 _ b) + r _ + X (ix3 0 _ b) = _
    rw [add_right_comm, add_comm (X (ix3 1 _ b))]

theorem out_ref (h : Agree mI X r g) (c : Dev nD) : outAt mI c = refOut X r g := by
  funext i
  obtain ⟨p, q, rfl⟩ : ∃ p q : Fin 512, i = ix2 p q := ⟨i 0, i 1, eq_ix2 i⟩
  rw [refOut_apply]
  show chunkOut mI (src c (chunkNo (ix2 p q))).1 (src c (chunkNo (ix2 p q))).2 (inChunk (ix2 p q)) = _
  have hrow := src_row c (chunkNo (ix2 p q))
  generalize (src c (chunkNo (ix2 p q))).1 = d at hrow ⊢
  generalize (src c (chunkNo (ix2 p q))).2 = k at hrow ⊢
  have hi : inChunk (ix2 p q) = (ix2 (⟨p.val % 16, Nat.mod_lt _ (by decide)⟩ : Fin 16) q : S16x512.Idx) := by
    funext x; refine Fin.ext ?_; fin_cases x <;> rfl
  have hp : rowIn d k ⟨p.val % 16, Nat.mod_lt _ (by decide)⟩ = p := by
    refine Fin.ext ?_
    show rowOf d k + p.val % 16 = p.val
    have : rowOf d k = 16 * (p.val / 16) := hrow
    omega
  have hg : gv mI d (ix1 q : S512.Idx) = g (ix1 q) := (gv_apply mI d q).trans (congrFun (h d).2.2 _)
  rw [hi]
  unfold chunkOut
  rw [pay8_apply, hg]
  simp only [y_ref h, hp]
  rw [div_sqrt _ _ (mean_pos _ (Finset.sum_nonneg fun _ _ => sq_nonneg' _))]

end Equal

end Cert.KernelIdeal.Own
end
-- ==== Proof.lean ====
/- The certificate of a two-stage all-reduce fused with an RMS norm, on a 2 x 2 mesh: the frames of the kernel,
   of its idealization and of the reference, and the equation of the last two over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealEqual
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- Every run of the kernel ends without a fault, and with every semaphore at zero. -/
theorem frame_kernel : Cert.quiescent_Kernel := fun m g _ => Cert.Kernel.Own.frame (F := Bits) m g

/-- Every run of the idealized kernel ends without a fault, and with every semaphore at zero. -/
theorem frame_ideal : Cert.quiescent_KernelIdeal := fun m g _ => Cert.KernelIdeal.Own.frame (F := Ideal) m g

/-- The reference runs host operations only, and its program has no semaphore. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals every device ends with the whole result of the reference. -/
theorem equal : Cert.algebraic_KernelIdeal_ReferenceIdeal := fun m g m' g' _ h =>
  ⟨Cert.KernelIdeal.Own.refOut _ _ _,
    (θ_run Cert.KernelIdeal.defs _ _).mono (fun _ H c => ⟨(H c).1.trans (Cert.KernelIdeal.Own.out_ref h c), (H c).2⟩)
      (Cert.KernelIdeal.Own.result (F := Ideal) m g),
    (θ_run Cert.ReferenceIdeal.defs _ _).mono (fun _ H => H 0) (Cert.ReferenceIdeal.Value.run (F := Ideal) m' g')⟩

/-- All five claims. -/
theorem claim : Cert.Claim :=
  ⟨Cert.Kernel.Gen.facts, Cert.KernelIdeal.Gen.facts, Cert.ReferenceIdeal.Gen.facts,
    frame_kernel, frame_ideal, frame_ref, trivial, equal⟩

end Cert.Proof

end
